-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_softmax_weights_finite [hPre_softmax_weights_finite : Cert.Pre_softmax_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_softmax_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_softmax_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_softmax_weights_finite [hPre_softmax_weights_finite : Cert.Pre_softmax_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_softmax_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_softmax_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_softmax_weights_finite [hKernelIdeal : Cert.KernelIdeal.Facts] [hPre_softmax_weights_finite : Cert.Pre_softmax_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_softmax_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_softmax_weights_finite [hReferenceIdeal : Cert.ReferenceIdeal.Facts] [hPre_softmax_weights_finite : Cert.Pre_softmax_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_softmax_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_derivative_finite_pre_softmax_weights_finite [hKernelIdeal : Cert.KernelIdeal.Facts] [hReferenceIdeal : Cert.ReferenceIdeal.Facts] [hPre_softmax_weights_finite : Cert.Pre_softmax_weights_finite.Facts] [hOn_derivative_finite : Cert.On_derivative_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_softmax_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4096, 2, 2048]⟩ : Shape).Idx, (Cert.On_derivative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨2, ![4096, 1]⟩ : Shape).Idx, (Cert.On_derivative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4096, 2, 2048]⟩ : Shape).Idx, (Cert.On_derivative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v121) i = v0 c i)
          ∧ (∀ i : (⟨2, ![4096, 1]⟩ : Shape).Idx, (Cert.On_derivative_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v124) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_softmax_weights_finite : Cert.Pre_softmax_weights_finite.Facts) (hOn_derivative_finite : Cert.On_derivative_finite.Facts),
    quiescent_Kernel (hKernel := hKernel)
    ∧ quiescent_KernelIdeal (hKernelIdeal := hKernelIdeal)
    ∧ quiescent_KernelIdeal_pre_softmax_weights_finite (hKernelIdeal := hKernelIdeal) (hPre_softmax_weights_finite := hPre_softmax_weights_finite)
    ∧ quiescent_ReferenceIdeal (hReferenceIdeal := hReferenceIdeal)
    ∧ quiescent_ReferenceIdeal_pre_softmax_weights_finite (hReferenceIdeal := hReferenceIdeal) (hPre_softmax_weights_finite := hPre_softmax_weights_finite)
    ∧ preserves_Kernel_KernelIdeal
    ∧ algebraic_KernelIdeal_ReferenceIdeal_on_derivative_finite_pre_softmax_weights_finite (hKernelIdeal := hKernelIdeal) (hReferenceIdeal := hReferenceIdeal) (hPre_softmax_weights_finite := hPre_softmax_weights_finite) (hOn_derivative_finite := hOn_derivative_finite)
-- ==== On_derivative_finite.lean ====
abbrev S4096x4096 : Shape := ⟨2, ![4096, 4096]⟩
abbrev S4096x1 : Shape := ⟨2, ![4096, 1]⟩
abbrev S4096x64 : Shape := ⟨2, ![4096, 64]⟩
abbrev S64 : Shape := ⟨1, ![64]⟩
abbrev S64x49152 : Shape := ⟨2, ![64, 49152]⟩
abbrev S49152 : Shape := ⟨1, ![49152]⟩
abbrev S1 : Shape := ⟨1, ![1]⟩
abbrev S_ : Shape := ⟨0, ![]⟩
abbrev S4096x2048 : Shape := ⟨2, ![4096, 2048]⟩
abbrev S1x64 : Shape := ⟨2, ![1, 64]⟩
abbrev S4096x49152 : Shape := ⟨2, ![4096, 49152]⟩
abbrev S1x49152 : Shape := ⟨2, ![1, 49152]⟩
abbrev S4096x2048x24 : Shape := ⟨3, ![4096, 2048, 24]⟩
abbrev S4096x2048x8 : Shape := ⟨3, ![4096, 2048, 8]⟩
abbrev S4096x2048x1 : Shape := ⟨3, ![4096, 2048, 1]⟩
abbrev S4096x2048x9 : Shape := ⟨3, ![4096, 2048, 9]⟩
abbrev S4096x2048x1x1 : Shape := ⟨4, ![4096, 2048, 1, 1]⟩
abbrev S1x1x1x1 : Shape := ⟨4, ![1, 1, 1, 1]⟩
abbrev S1x1 : Shape := ⟨2, ![1, 1]⟩
abbrev S4096x2x2048 : Shape := ⟨3, ![4096, 2, 2048]⟩

class Facts : Prop where
  slices_S4096x4096_S4096x2048_0_0 : S4096x4096.Slices ![0, 0] S4096x2048
  slices_S4096x4096_S4096x2048_0_2048 : S4096x4096.Slices ![0, 2048] S4096x2048
  concatenates_S4096x2048_S4096x2048_S4096x4096_d1 : Shape.Concatenates [S4096x2048, S4096x2048] S4096x4096 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S49152_S1x49152_1 : S49152.BroadcastsInDim S1x49152 (![1] : Fin 1 → Fin S1x49152.rank)
  bcast_S1x49152_S4096x49152_0_1 : S1x49152.BroadcastsInDim S4096x49152 (![0, 1] : Fin 2 → Fin S4096x49152.rank)
  shapeCasts_S4096x49152_S4096x2048x24 : S4096x49152.ShapeCasts S4096x2048x24
  slices_S4096x2048x24_S4096x2048x8_0_0_0 : S4096x2048x24.Slices ![0, 0, 0] S4096x2048x8
  slices_S4096x2048x24_S4096x2048x8_0_0_8 : S4096x2048x24.Slices ![0, 0, 8] S4096x2048x8
  slices_S4096x2048x24_S4096x2048x8_0_0_16 : S4096x2048x24.Slices ![0, 0, 16] S4096x2048x8
  reducesTo_S4096x2048x8_S4096x2048_d2 : S4096x2048x8.ReducesTo [2] S4096x2048
  h_S_ : 0 < S_.numel
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  bcast_S4096x2048x1_S4096x2048x8_0_1_2 : S4096x2048x1.BroadcastsInDim S4096x2048x8 (![0, 1, 2] : Fin 3 → Fin S4096x2048x8.rank)
  bcast_S_S4096x2048x8 : S_.BroadcastsInDim S4096x2048x8 (![] : Fin 0 → Fin S4096x2048x8.rank)
  bcast_S_S4096x2048x1 : S_.BroadcastsInDim S4096x2048x1 (![] : Fin 0 → Fin S4096x2048x1.rank)
  bcast_S_S_ : S_.BroadcastsInDim S_ (![] : Fin 0 → Fin S_.rank)
  reduceWindows_S4096x2048x8_S4096x2048x8_w1s1p0_0_w1s1p0_0_w8s1p7_0 : S4096x2048x8.ReduceWindows (![1, 1, 8] : Fin 3 → Nat) ![1, 1, 1] ![0, 0, 7] ![0, 0, 0] S4096x2048x8
  concatenates_S4096x2048x1_S4096x2048x8_S4096x2048x9_d2 : Shape.Concatenates [S4096x2048x1, S4096x2048x8] S4096x2048x9 2
  bcast_S4096x2048x1_S4096x2048x9_0_1_2 : S4096x2048x1.BroadcastsInDim S4096x2048x9 (![0, 1, 2] : Fin 3 → Fin S4096x2048x9.rank)
  natLt_1_32 : 1 < 32
  reducesTo_S4096x2048x9_S4096x2048_d2 : S4096x2048x9.ReducesTo [2] S4096x2048
  shapeCasts_S4096x2048x1_S4096x2048x1x1 : S4096x2048x1.ShapeCasts S4096x2048x1x1
  bcast_S_S4096x2048x1x1 : S_.BroadcastsInDim S4096x2048x1x1 (![] : Fin 0 → Fin S4096x2048x1x1.rank)
  bcast_S1_S1x1x1x1_3 : S1.BroadcastsInDim S1x1x1x1 (![3] : Fin 1 → Fin S1x1x1x1.rank)
  bcast_S1x1x1x1_S4096x2048x1x1_0_1_2_3 : S1x1x1x1.BroadcastsInDim S4096x2048x1x1 (![0, 1, 2, 3] : Fin 4 → Fin S4096x2048x1x1.rank)
  reducesTo_S4096x2048x1x1_S4096x2048x1_d3 : S4096x2048x1x1.ReducesTo [3] S4096x2048x1
  shapeCasts_S4096x2048x1_S4096x2048 : S4096x2048x1.ShapeCasts S4096x2048
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2x2048 : S_.BroadcastsInDim S4096x2x2048 (![] : Fin 0 → Fin S4096x2x2048.rank)
  reducesTo_S4096x2048x1_S4096x1_d1 : S4096x2048x1.ReducesTo [1] S4096x1
  dot_S4096x4096_S4096x64_S4096x64_1_0_0_1_n_n_wf : DotDims.WF S4096x4096 S4096x64 S4096x64 [1] [0] [0] [1] [] []
  dot_S4096x64_S64x49152_S4096x49152_1_0_0_1_n_n_wf : DotDims.WF S4096x64 S64x49152 S4096x49152 [1] [0] [0] [1] [] []
  gather_S4096x2048x8_S4096x2048x1x1_S4096x2048x1_n_2_01_01_2_3_111_wf : GatherDims.WF S4096x2048x8 S4096x2048x1x1 S4096x2048x1 [] [2] [0, 1] [2] [0, 1] 3 ![1, 1, 1]
  gather_S4096x2048x9_S4096x2048x1x1_S4096x2048x1_n_2_01_01_2_3_111_wf : GatherDims.WF S4096x2048x9 S4096x2048x1x1 S4096x2048x1 [] [2] [0, 1] [2] [0, 1] 3 ![1, 1, 1]

variable [Facts]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x49152_S4096x49152_1_0_0_1_n_n : DotDims S4096x64 S64x49152 S4096x49152 where
  lhsContracting := [1]
  rhsContracting := [0]
  lhsNonContracting := [0]
  rhsNonContracting := [1]
  lhsBatch := []
  rhsBatch := []
  wf := dot_S4096x64_S64x49152_S4096x49152_1_0_0_1_n_n_wf
def gather_S4096x2048x8_S4096x2048x1x1_S4096x2048x1_n_2_01_01_2_3_111 : GatherDims S4096x2048x8 S4096x2048x1x1 S4096x2048x1 where
  offsetDims := []
  collapsedSliceDims := [2]
  operandBatchingDims := [0, 1]
  startIndicesBatchingDims := [0, 1]
  startIndexMap := [2]
  indexVectorDim := 3
  sliceSizes := ![1, 1, 1]
  wf := gather_S4096x2048x8_S4096x2048x1x1_S4096x2048x1_n_2_01_01_2_3_111_wf
def gather_S4096x2048x9_S4096x2048x1x1_S4096x2048x1_n_2_01_01_2_3_111 : GatherDims S4096x2048x9 S4096x2048x1x1 S4096x2048x1 where
  offsetDims := []
  collapsedSliceDims := [2]
  operandBatchingDims := [0, 1]
  startIndicesBatchingDims := [0, 1]
  startIndexMap := [2]
  indexVectorDim := 3
  sliceSizes := ![1, 1, 1]
  wf := gather_S4096x2048x9_S4096x2048x1x1_S4096x2048x1_n_2_01_01_2_3_111_wf
def fn_softplus {F : FTy → Type} [FloatOps F] (arg0 : FVec F S4096x2048x8 .f32) : FVec F S4096x2048x8 .f32 :=
  let cst : FVec F S_ .f32 := constant S_ .f32 0x00000000#32
  let v0 : FVec F S4096x2048x8 .f32 := broadcastInDim S4096x2048x8 ![] bcast_S_S4096x2048x8 cst
  let v1 : FVec F S4096x2048x8 .f32 := maximumf arg0 v0
  let v2 : FVec F S4096x2048x8 .f32 := broadcastInDim S4096x2048x8 ![] bcast_S_S4096x2048x8 cst
  let v3 : FVec F S4096x2048x8 .f32 := subf arg0 v2
  let v4 : IVec S4096x2048x8 1 := cmpf .une v3 v3
  let v5 : FVec F S4096x2048x8 .f32 := broadcastInDim S4096x2048x8 ![] bcast_S_S4096x2048x8 cst
  let v6 : FVec F S4096x2048x8 .f32 := addf arg0 v5
  let v7 : FVec F S4096x2048x8 .f32 := Host.absf v3
  let v8 : FVec F S4096x2048x8 .f32 := Host.negf v7
  let v9 : FVec F S4096x2048x8 .f32 := Host.exp v8
  let v10 : FVec F S4096x2048x8 .f32 := Host.log1p v9
  let v11 : FVec F S4096x2048x8 .f32 := addf v1 v10
  let v12 : FVec F S4096x2048x8 .f32 := select v4 v6 v11
  v12

def fn_cumsum_0 {F : FTy → Type} [FloatOps F] (arg0 : FVec F S4096x2048x8 .f32) : FVec F S4096x2048x8 .f32 :=
  let cst : FVec F S_ .f32 := constant S_ .f32 0x00000000#32
  let v0 : FVec F S_ .f32 := broadcastInDim S_ ![] bcast_S_S_ cst
  let v1 : FVec F S4096x2048x8 .f32 := (fun x v => Host.reduceWindowAdd ![1, 1, 8] ![1, 1, 1] ![0, 0, 7] ![0, 0, 0] x v reduceWindows_S4096x2048x8_S4096x2048x8_w1s1p0_0_w1s1p0_0_w8s1p7_0 h_S_) arg0 v0
  v1

def fn_cumsum {F : FTy → Type} [FloatOps F] (arg0 : FVec F S4096x2048x8 .f32) : FVec F S4096x2048x8 .f32 :=
  let v0 : FVec F S4096x2048x8 .f32 := fn_cumsum_0 (F := F) arg0
  v0

def fn_clip {F : FTy → Type} [FloatOps F] (arg0 : IVec S4096x2048x1 32) (arg1 : IVec S_ 32) (arg2 : IVec S_ 32) : IVec S4096x2048x1 32 :=
  let v0 : IVec S_ 32 := id arg1
  let v1 : IVec S4096x2048x1 32 := broadcastInDim S4096x2048x1 ![] bcast_S_S4096x2048x1 v0
  let v2 : IVec S4096x2048x1 32 := maxsi v1 arg0
  let v3 : IVec S_ 32 := id arg2
  let v4 : IVec S4096x2048x1 32 := broadcastInDim S4096x2048x1 ![] bcast_S_S4096x2048x1 v3
  let v5 : IVec S4096x2048x1 32 := minsi v4 v2
  v5

def fn_take_along_axis {F : FTy → Type} [FloatOps F] (arg0 : FVec F S4096x2048x8 .f32) (arg1 : IVec S4096x2048x1 32) : FVec F S4096x2048x1 .f32 :=
  let c : IVec S_ 32 := constantI S_ 32 0#32
  let v0 : IVec S4096x2048x1 32 := broadcastInDim S4096x2048x1 ![] bcast_S_S4096x2048x1 c
  let v1 : IVec S4096x2048x1 1 := cmpi .slt arg1 v0
  let c_0 : IVec S_ 32 := constantI S_ 32 8#32
  let v2 : IVec S4096x2048x1 32 := broadcastInDim S4096x2048x1 ![] bcast_S_S4096x2048x1 c_0
  let v3 : IVec S4096x2048x1 32 := addi arg1 v2
  let v4 : IVec S4096x2048x1 32 := select v1 v3 arg1
  let v5 : IVec S4096x2048x1x1 32 := shapeCast S4096x2048x1x1 v4 shapeCasts_S4096x2048x1_S4096x2048x1x1
  let c_1 : IVec S1 32 := constantI S1 32 7#32
  let c_2 : IVec S_ 32 := constantI S_ 32 0#32
  let v6 : IVec S4096x2048x1x1 32 := broadcastInDim S4096x2048x1x1 ![] bcast_S_S4096x2048x1x1 c_2
  let v7 : IVec S4096x2048x1x1 1 := cmpi .sge v5 v6
  let v8 : IVec S1x1x1x1 32 := broadcastInDim S1x1x1x1 ![3] bcast_S1_S1x1x1x1_3 c_1
  let v9 : IVec S4096x2048x1x1 32 := broadcastInDim S4096x2048x1x1 ![0, 1, 2, 3] bcast_S1x1x1x1_S4096x2048x1x1_0_1_2_3 v8
  let v10 : IVec S4096x2048x1x1 1 := cmpi .sle v5 v9
  let v11 : IVec S4096x2048x1x1 1 := andi v7 v10
  let c_3 : IVec S_ 1 := constantI S_ 1 1#1
  let v12 : IVec S4096x2048x1 1 := (fun x v => Host.reduce IntOp.andi x v reducesTo_S4096x2048x1x1_S4096x2048x1_d3 h_S_) v11 c_3
  let v13 : FVec F S4096x2048x1 .f32 := (fun x i => Host.gather gather_S4096x2048x8_S4096x2048x1x1_S4096x2048x1_n_2_01_01_2_3_111 x i) arg0 v5
  let cst : FVec F S_ .f32 := constant S_ .f32 0x7FC00000#32
  let v14 : FVec F S4096x2048x1 .f32 := broadcastInDim S4096x2048x1 ![] bcast_S_S4096x2048x1 cst
  let v15 : FVec F S4096x2048x1 .f32 := select v12 v13 v14
  v15

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x2048x1 32) (arg1 : IVec S_ 32) : IVec S4096x2048x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4096x2048x1 32 := broadcastInDim S4096x2048x1 ![] bcast_S_S4096x2048x1 v2
  let v4 : IVec S4096x2048x1 32 := Host.remsi arg0 v3
  let c_1 : IVec S_ 32 := constantI S_ 32 0#32
  let v5 : IVec S4096x2048x1 32 := broadcastInDim S4096x2048x1 ![] bcast_S_S4096x2048x1 c_1
  let v6 : IVec S4096x2048x1 1 := cmpi .ne v4 v5
  let c_2 : IVec S_ 32 := constantI S_ 32 0#32
  let v7 : IVec S4096x2048x1 32 := broadcastInDim S4096x2048x1 ![] bcast_S_S4096x2048x1 c_2
  let v8 : IVec S4096x2048x1 1 := cmpi .slt v4 v7
  let c_3 : IVec S_ 32 := constantI S_ 32 0#32
  let v9 : IVec S_ 1 := cmpi .slt v2 c_3
  let v10 : IVec S4096x2048x1 1 := broadcastInDim S4096x2048x1 ![] bcast_S_S4096x2048x1 v9
  let v11 : IVec S4096x2048x1 1 := cmpi .ne v8 v10
  let v12 : IVec S4096x2048x1 1 := andi v11 v6
  let v13 : IVec S4096x2048x1 32 := broadcastInDim S4096x2048x1 ![] bcast_S_S4096x2048x1 v2
  let v14 : IVec S4096x2048x1 32 := addi v4 v13
  let v15 : IVec S4096x2048x1 32 := select v12 v14 v4
  v15

def fn_take_along_axis_1 {F : FTy → Type} [FloatOps F] (arg0 : FVec F S4096x2048x9 .f32) (arg1 : IVec S4096x2048x1 32) : FVec F S4096x2048x1 .f32 :=
  let c : IVec S_ 32 := constantI S_ 32 0#32
  let v0 : IVec S4096x2048x1 32 := broadcastInDim S4096x2048x1 ![] bcast_S_S4096x2048x1 c
  let v1 : IVec S4096x2048x1 1 := cmpi .slt arg1 v0
  let c_0 : IVec S_ 32 := constantI S_ 32 9#32
  let v2 : IVec S4096x2048x1 32 := broadcastInDim S4096x2048x1 ![] bcast_S_S4096x2048x1 c_0
  let v3 : IVec S4096x2048x1 32 := addi arg1 v2
  let v4 : IVec S4096x2048x1 32 := select v1 v3 arg1
  let v5 : IVec S4096x2048x1x1 32 := shapeCast S4096x2048x1x1 v4 shapeCasts_S4096x2048x1_S4096x2048x1x1
  let c_1 : IVec S1 32 := constantI S1 32 8#32
  let c_2 : IVec S_ 32 := constantI S_ 32 0#32
  let v6 : IVec S4096x2048x1x1 32 := broadcastInDim S4096x2048x1x1 ![] bcast_S_S4096x2048x1x1 c_2
  let v7 : IVec S4096x2048x1x1 1 := cmpi .sge v5 v6
  let v8 : IVec S1x1x1x1 32 := broadcastInDim S1x1x1x1 ![3] bcast_S1_S1x1x1x1_3 c_1
  let v9 : IVec S4096x2048x1x1 32 := broadcastInDim S4096x2048x1x1 ![0, 1, 2, 3] bcast_S1x1x1x1_S4096x2048x1x1_0_1_2_3 v8
  let v10 : IVec S4096x2048x1x1 1 := cmpi .sle v5 v9
  let v11 : IVec S4096x2048x1x1 1 := andi v7 v10
  let c_3 : IVec S_ 1 := constantI S_ 1 1#1
  let v12 : IVec S4096x2048x1 1 := (fun x v => Host.reduce IntOp.andi x v reducesTo_S4096x2048x1x1_S4096x2048x1_d3 h_S_) v11 c_3
  let v13 : FVec F S4096x2048x1 .f32 := (fun x i => Host.gather gather_S4096x2048x9_S4096x2048x1x1_S4096x2048x1_n_2_01_01_2_3_111 x i) arg0 v5
  let cst : FVec F S_ .f32 := constant S_ .f32 0x7FC00000#32
  let v14 : FVec F S4096x2048x1 .f32 := broadcastInDim S4096x2048x1 ![] bcast_S_S4096x2048x1 cst
  let v15 : FVec F S4096x2048x1 .f32 := select v12 v13 v14
  v15

def fn_remainder_2 {F : FTy → Type} [FloatOps F] (arg0 : FVec F S4096x2048 .f32) (arg1 : FVec F S_ .f32) : FVec F S4096x2048 .f32 :=
  let v0 : FVec F S_ .f32 := id arg1
  let v1 : FVec F S4096x2048 .f32 := broadcastInDim S4096x2048 ![] bcast_S_S4096x2048 v0
  let v2 : FVec F S4096x2048 .f32 := Host.remf arg0 v1
  let cst : FVec F S_ .f32 := constant S_ .f32 0x00000000#32
  let v3 : FVec F S4096x2048 .f32 := broadcastInDim S4096x2048 ![] bcast_S_S4096x2048 cst
  let v4 : IVec S4096x2048 1 := cmpf .une v2 v3
  let cst_0 : FVec F S_ .f32 := constant S_ .f32 0x00000000#32
  let v5 : FVec F S4096x2048 .f32 := broadcastInDim S4096x2048 ![] bcast_S_S4096x2048 cst_0
  let v6 : IVec S4096x2048 1 := cmpf .olt v2 v5
  let cst_1 : FVec F S_ .f32 := constant S_ .f32 0x00000000#32
  let v7 : IVec S_ 1 := cmpf .olt v0 cst_1
  let v8 : IVec S4096x2048 1 := broadcastInDim S4096x2048 ![] bcast_S_S4096x2048 v7
  let v9 : IVec S4096x2048 1 := cmpi .ne v6 v8
  let v10 : IVec S4096x2048 1 := andi v9 v4
  let v11 : FVec F S4096x2048 .f32 := broadcastInDim S4096x2048 ![] bcast_S_S4096x2048 v0
  let v12 : FVec F S4096x2048 .f32 := addf v2 v11
  let v13 : FVec F S4096x2048 .f32 := select v10 v12 v2
  v13

def fn_part6 {F : FTy → Type} [FloatOps F] (main_v118 : FVec F S4096x2048x1 .f32) : IVec S4096x2x2048 1 × IVec S4096x1 1 :=
  let main_c_23 : IVec S_ 1 := constantI S_ 1 1#1
  let main_v119 : IVec S4096x2x2048 1 := broadcastInDim S4096x2x2048 ![] bcast_S_S4096x2x2048 main_c_23
  let main_cst_24 : FVec F S_ .f32 := constant S_ .f32 0x7F800000#32
  let main_v120 : FVec F S4096x2048x1 .f32 := broadcastInDim S4096x2048x1 ![] bcast_S_S4096x2048x1 main_cst_24
  let main_v121 : IVec S4096x2048x1 1 := cmpf .olt main_v118 main_v120
  let main_c_25 : IVec S_ 1 := constantI S_ 1 1#1
  let main_v122 : IVec S4096x1 1 := (fun x v => Host.reduce IntOp.andi x v reducesTo_S4096x2048x1_S4096x1_d1 h_S_) main_v121 main_c_25
  (main_v119, main_v122)

def fn_part5 {F : FTy → Type} [FloatOps F] (main_v66 : FVec F S4096x2048x1 .f32) (main_v67 : FVec F S4096x2048x1 .f32) (main_v71 : FVec F S4096x2048x1 .f32) (main_v76 : FVec F S4096x2048x1 .f32) (main_v85 : FVec F S4096x2048x1 .f32) (main_v96 : FVec F S4096x2048 .f32) (main_v98 : FVec F S4096x2048 .f32) : IVec S4096x2x2048 1 × IVec S4096x1 1 :=
  let main_v99 : FVec F S4096x2048 .f32 := addf main_v96 main_v98
  let main_cst_19 : FVec F S_ .f32 := constant S_ .f32 0x40C90FDB#32
  let main_v100 : FVec F S4096x2048 .f32 := fn_remainder_2 (F := F) main_v99 main_cst_19
  let main_v101 : FVec F S4096x2048x1 .f32 := mulf main_v66 main_v66
  let main_v102 : FVec F S4096x2048x1 .f32 := mulf main_v76 main_v76
  let main_v103 : FVec F S4096x2048x1 .f32 := mulf main_v71 main_v102
  let main_cst_20 : FVec F S_ .f32 := constant S_ .f32 0x40000000#32
  let main_v104 : FVec F S4096x2048x1 .f32 := broadcastInDim S4096x2048x1 ![] bcast_S_S4096x2048x1 main_cst_20
  let main_v105 : FVec F S4096x2048x1 .f32 := mulf main_v104 main_v66
  let main_v106 : FVec F S4096x2048x1 .f32 := mulf main_v105 main_v76
  let main_cst_21 : FVec F S_ .f32 := constant S_ .f32 0x3F800000#32
  let main_v107 : FVec F S4096x2048x1 .f32 := broadcastInDim S4096x2048x1 ![] bcast_S_S4096x2048x1 main_cst_21
  let main_v108 : FVec F S4096x2048x1 .f32 := subf main_v107 main_v76
  let main_v109 : FVec F S4096x2048x1 .f32 := mulf main_v106 main_v108
  let main_v110 : FVec F S4096x2048x1 .f32 := addf main_v103 main_v109
  let main_cst_22 : FVec F S_ .f32 := constant S_ .f32 0x3F800000#32
  let main_v111 : FVec F S4096x2048x1 .f32 := broadcastInDim S4096x2048x1 ![] bcast_S_S4096x2048x1 main_cst_22
  let main_v112 : FVec F S4096x2048x1 .f32 := subf main_v111 main_v76
  let main_v113 : FVec F S4096x2048x1 .f32 := mulf main_v112 main_v112
  let main_v114 : FVec F S4096x2048x1 .f32 := mulf main_v67 main_v113
  let main_v115 : FVec F S4096x2048x1 .f32 := addf main_v110 main_v114
  let main_v116 : FVec F S4096x2048x1 .f32 := mulf main_v101 main_v115
  let main_v117 : FVec F S4096x2048x1 .f32 := mulf main_v85 main_v85
  let main_v118 : FVec F S4096x2048x1 .f32 := Host.divf main_v116 main_v117
  fn_part6 (F := F) main_v118

def fn_part4 {F : FTy → Type} [FloatOps F] (main_arg6 : FVec F S1 .f32) (main_v65 : FVec F S4096x2048x1 .f32) (main_v66 : FVec F S4096x2048x1 .f32) (main_v67 : FVec F S4096x2048x1 .f32) (main_v71 : FVec F S4096x2048x1 .f32) (main_v73 : FVec F S4096x2048x1 .f32) (main_v76 : FVec F S4096x2048x1 .f32) (main_v77 : FVec F S4096x2048x1 .f32) : IVec S4096x2x2048 1 × IVec S4096x1 1 :=
  let main_cst_16 : FVec F S_ .f32 := constant S_ .f32 0x40000000#32
  let main_v78 : FVec F S4096x2048x1 .f32 := broadcastInDim S4096x2048x1 ![] bcast_S_S4096x2048x1 main_cst_16
  let main_v79 : FVec F S4096x2048x1 .f32 := mulf main_v78 main_v66
  let main_v80 : FVec F S4096x2048x1 .f32 := subf main_v77 main_v79
  let main_v81 : FVec F S4096x2048x1 .f32 := mulf main_v80 main_v76
  let main_cst_17 : FVec F S_ .f32 := constant S_ .f32 0x3F800000#32
  let main_v82 : FVec F S4096x2048x1 .f32 := broadcastInDim S4096x2048x1 ![] bcast_S_S4096x2048x1 main_cst_17
  let main_v83 : FVec F S4096x2048x1 .f32 := subf main_v82 main_v76
  let main_v84 : FVec F S4096x2048x1 .f32 := mulf main_v81 main_v83
  let main_v85 : FVec F S4096x2048x1 .f32 := addf main_v66 main_v84
  let main_v86 : FVec F S4096x2048x1 .f32 := mulf main_v76 main_v76
  let main_v87 : FVec F S4096x2048x1 .f32 := mulf main_v66 main_v86
  let main_v88 : FVec F S4096x2048x1 .f32 := mulf main_v67 main_v76
  let main_cst_18 : FVec F S_ .f32 := constant S_ .f32 0x3F800000#32
  let main_v89 : FVec F S4096x2048x1 .f32 := broadcastInDim S4096x2048x1 ![] bcast_S_S4096x2048x1 main_cst_18
  let main_v90 : FVec F S4096x2048x1 .f32 := subf main_v89 main_v76
  let main_v91 : FVec F S4096x2048x1 .f32 := mulf main_v88 main_v90
  let main_v92 : FVec F S4096x2048x1 .f32 := addf main_v87 main_v91
  let main_v93 : FVec F S4096x2048x1 .f32 := mulf main_v65 main_v92
  let main_v94 : FVec F S4096x2048x1 .f32 := Host.divf main_v93 main_v85
  let main_v95 : FVec F S4096x2048x1 .f32 := addf main_v73 main_v94
  let main_v96 : FVec F S4096x2048 .f32 := shapeCast S4096x2048 main_v95 shapeCasts_S4096x2048x1_S4096x2048
  let main_v97 : FVec F S1x1 .f32 := broadcastInDim S1x1 ![1] bcast_S1_S1x1_1 main_arg6
  let main_v98 : FVec F S4096x2048 .f32 := broadcastInDim S4096x2048 ![0, 1] bcast_S1x1_S4096x2048_0_1 main_v97
  fn_part5 (F := F) main_v66 main_v67 main_v71 main_v76 main_v85 main_v96 main_v98

def fn_part3 {F : FTy → Type} [FloatOps F] (main_arg6 : FVec F S1 .f32) (main_v1 : FVec F S4096x2048 .f32) (main_v32 : FVec F S4096x2048x8 .f32) (main_v47 : FVec F S4096x2048x8 .f32) (main_v48 : FVec F S4096x2048x8 .f32) (main_v51 : FVec F S4096x2048x9 .f32) (main_v54 : FVec F S4096x2048x9 .f32) (main_v58 : IVec S4096x2048x9 32) (main_c : IVec S_ 32) : IVec S4096x2x2048 1 × IVec S4096x1 1 :=
  let main_v59 : IVec S4096x2048 32 := (fun x v => Host.reduce IntOp.addi x v reducesTo_S4096x2048x9_S4096x2048_d2 h_S_) main_v58 main_c
  let main_v60 : IVec S4096x2048x1 32 := broadcastInDim S4096x2048x1 ![0, 1] bcast_S4096x2048_S4096x2048x1_0_1 main_v59
  let main_c_11 : IVec S_ 32 := constantI S_ 32 1#32
  let main_v61 : IVec S4096x2048x1 32 := broadcastInDim S4096x2048x1 ![] bcast_S_S4096x2048x1 main_c_11
  let main_v62 : IVec S4096x2048x1 32 := subi main_v60 main_v61
  let main_c_12 : IVec S_ 32 := constantI S_ 32 0#32
  let main_c_13 : IVec S_ 32 := constantI S_ 32 7#32
  let main_v63 : IVec S4096x2048x1 32 := fn_clip (F := F) main_v62 main_c_12 main_c_13
  let main_v64 : FVec F S4096x2048x1 .f32 := fn_take_along_axis (F := F) main_v47 main_v63
  let main_v65 : FVec F S4096x2048x1 .f32 := fn_take_along_axis (F := F) main_v32 main_v63
  let main_v66 : FVec F S4096x2048x1 .f32 := Host.divf main_v65 main_v64
  let main_v67 : FVec F S4096x2048x1 .f32 := fn_take_along_axis (F := F) main_v48 main_v63
  let main_c_14 : IVec S_ 32 := constantI S_ 32 1#32
  let main_v68 : IVec S4096x2048x1 32 := broadcastInDim S4096x2048x1 ![] bcast_S_S4096x2048x1 main_c_14
  let main_v69 : IVec S4096x2048x1 32 := addi main_v63 main_v68
  let main_c_15 : IVec S_ 32 := constantI S_ 32 8#32
  let main_v70 : IVec S4096x2048x1 32 := fn_remainder (F := F) main_v69 main_c_15
  let main_v71 : FVec F S4096x2048x1 .f32 := fn_take_along_axis (F := F) main_v48 main_v70
  let main_v72 : FVec F S4096x2048x1 .f32 := fn_take_along_axis_1 (F := F) main_v51 main_v63
  let main_v73 : FVec F S4096x2048x1 .f32 := fn_take_along_axis_1 (F := F) main_v54 main_v63
  let main_v74 : FVec F S4096x2048x1 .f32 := broadcastInDim S4096x2048x1 ![0, 1] bcast_S4096x2048_S4096x2048x1_0_1 main_v1
  let main_v75 : FVec F S4096x2048x1 .f32 := subf main_v74 main_v72
  let main_v76 : FVec F S4096x2048x1 .f32 := Host.divf main_v75 main_v64
  let main_v77 : FVec F S4096x2048x1 .f32 := addf main_v71 main_v67
  fn_part4 (F := F) main_arg6 main_v65 main_v66 main_v67 main_v71 main_v73 main_v76 main_v77

def fn_part2 {F : FTy → Type} [FloatOps F] (main_arg6 : FVec F S1 .f32) (main_v1 : FVec F S4096x2048 .f32) (main_v17 : FVec F S4096x2048x8 .f32) (main_v32 : FVec F S4096x2048x8 .f32) (main_v39 : FVec F S4096x2048x8 .f32) (main_cst_6 : FVec F S_ .f32) : IVec S4096x2x2048 1 × IVec S4096x1 1 :=
  let main_v40 : FVec F S4096x2048 .f32 := (fun x v => Host.reduceAdd x v reducesTo_S4096x2048x8_S4096x2048_d2 h_S_) main_v39 main_cst_6
  let main_v41 : FVec F S4096x2048x1 .f32 := broadcastInDim S4096x2048x1 ![0, 1] bcast_S4096x2048_S4096x2048x1_0_1 main_v40
  let main_v42 : FVec F S4096x2048x8 .f32 := broadcastInDim S4096x2048x8 ![0, 1, 2] bcast_S4096x2048x1_S4096x2048x8_0_1_2 main_v41
  let main_v43 : FVec F S4096x2048x8 .f32 := Host.divf main_v39 main_v42
  let main_cst_7 : FVec F S_ .f32 := constant S_ .f32 0x40000000#32
  let main_v44 : FVec F S4096x2048x8 .f32 := broadcastInDim S4096x2048x8 ![] bcast_S_S4096x2048x8 main_cst_7
  let main_v45 : FVec F S4096x2048x8 .f32 := mulf main_v43 main_v44
  let main_cst_8 : FVec F S_ .f32 := constant S_ .f32 0x40490FDB#32
  let main_v46 : FVec F S4096x2048x8 .f32 := broadcastInDim S4096x2048x8 ![] bcast_S_S4096x2048x8 main_cst_8
  let main_v47 : FVec F S4096x2048x8 .f32 := mulf main_v45 main_v46
  let main_v48 : FVec F S4096x2048x8 .f32 := fn_softplus (F := F) main_v17
  let main_cst_9 : FVec F S_ .f32 := constant S_ .f32 0xB58637BD#32
  let main_v49 : FVec F S4096x2048x1 .f32 := broadcastInDim S4096x2048x1 ![] bcast_S_S4096x2048x1 main_cst_9
  let main_v50 : FVec F S4096x2048x8 .f32 := fn_cumsum (F := F) main_v47
  let main_v51 : FVec F S4096x2048x9 .f32 := (fun a b => concatenate S4096x2048x9 2 [⟨S4096x2048x1, a⟩, ⟨S4096x2048x8, b⟩] concatenates_S4096x2048x1_S4096x2048x8_S4096x2048x9_d2) main_v49 main_v50
  let main_cst_10 : FVec F S_ .f32 := constant S_ .f32 0x00000000#32
  let main_v52 : FVec F S4096x2048x1 .f32 := broadcastInDim S4096x2048x1 ![] bcast_S_S4096x2048x1 main_cst_10
  let main_v53 : FVec F S4096x2048x8 .f32 := fn_cumsum (F := F) main_v32
  let main_v54 : FVec F S4096x2048x9 .f32 := (fun a b => concatenate S4096x2048x9 2 [⟨S4096x2048x1, a⟩, ⟨S4096x2048x8, b⟩] concatenates_S4096x2048x1_S4096x2048x8_S4096x2048x9_d2) main_v52 main_v53
  let main_v55 : FVec F S4096x2048x1 .f32 := broadcastInDim S4096x2048x1 ![0, 1] bcast_S4096x2048_S4096x2048x1_0_1 main_v1
  let main_v56 : FVec F S4096x2048x9 .f32 := broadcastInDim S4096x2048x9 ![0, 1, 2] bcast_S4096x2048x1_S4096x2048x9_0_1_2 main_v55
  let main_v57 : IVec S4096x2048x9 1 := cmpf .olt main_v51 main_v56
  let main_v58 : IVec S4096x2048x9 32 := (extui 32 · natLt_1_32) main_v57
  let main_c : IVec S_ 32 := constantI S_ 32 0#32
  fn_part3 (F := F) main_arg6 main_v1 main_v32 main_v47 main_v48 main_v51 main_v54 main_v58 main_c

def fn_part1 {F : FTy → Type} [FloatOps F] (main_arg6 : FVec F S1 .f32) (main_v1 : FVec F S4096x2048 .f32) (main_v15 : FVec F S4096x2048x8 .f32) (main_v16 : FVec F S4096x2048x8 .f32) (main_v17 : FVec F S4096x2048x8 .f32) (main_v21 : FVec F S4096x2048x1 .f32) : IVec S4096x2x2048 1 × IVec S4096x1 1 :=
  let main_v22 : FVec F S4096x2048x8 .f32 := broadcastInDim S4096x2048x8 ![0, 1, 2] bcast_S4096x2048x1_S4096x2048x8_0_1_2 main_v21
  let main_v23 : FVec F S4096x2048x8 .f32 := subf main_v15 main_v22
  let main_v24 : FVec F S4096x2048x8 .f32 := Host.exp main_v23
  let main_cst_1 : FVec F S_ .f32 := constant S_ .f32 0x00000000#32
  let main_v25 : FVec F S4096x2048 .f32 := (fun x v => Host.reduceAdd x v reducesTo_S4096x2048x8_S4096x2048_d2 h_S_) main_v24 main_cst_1
  let main_v26 : FVec F S4096x2048x1 .f32 := broadcastInDim S4096x2048x1 ![0, 1] bcast_S4096x2048_S4096x2048x1_0_1 main_v25
  let main_v27 : FVec F S4096x2048x8 .f32 := broadcastInDim S4096x2048x8 ![0, 1, 2] bcast_S4096x2048x1_S4096x2048x8_0_1_2 main_v26
  let main_v28 : FVec F S4096x2048x8 .f32 := Host.divf main_v24 main_v27
  let main_cst_2 : FVec F S_ .f32 := constant S_ .f32 0x40000000#32
  let main_v29 : FVec F S4096x2048x8 .f32 := broadcastInDim S4096x2048x8 ![] bcast_S_S4096x2048x8 main_cst_2
  let main_v30 : FVec F S4096x2048x8 .f32 := mulf main_v28 main_v29
  let main_cst_3 : FVec F S_ .f32 := constant S_ .f32 0x40490FDB#32
  let main_v31 : FVec F S4096x2048x8 .f32 := broadcastInDim S4096x2048x8 ![] bcast_S_S4096x2048x8 main_cst_3
  let main_v32 : FVec F S4096x2048x8 .f32 := mulf main_v30 main_v31
  let main_cst_4 : FVec F S_ .f32 := constant S_ .f32 0xFF800000#32
  let main_v33 : FVec F S4096x2048 .f32 := (fun x v => Host.reduce FloatOps.maximumf x v reducesTo_S4096x2048x8_S4096x2048_d2 h_S_) main_v16 main_cst_4
  let main_cst_5 : FVec F S_ .f32 := constant S_ .f32 0xFF800000#32
  let main_v34 : FVec F S4096x2048 .f32 := broadcastInDim S4096x2048 ![] bcast_S_S4096x2048 main_cst_5
  let main_v35 : FVec F S4096x2048 .f32 := maximumf main_v34 main_v33
  let main_v36 : FVec F S4096x2048x1 .f32 := broadcastInDim S4096x2048x1 ![0, 1] bcast_S4096x2048_S4096x2048x1_0_1 main_v35
  let main_v37 : FVec F S4096x2048x8 .f32 := broadcastInDim S4096x2048x8 ![0, 1, 2] bcast_S4096x2048x1_S4096x2048x8_0_1_2 main_v36
  let main_v38 : FVec F S4096x2048x8 .f32 := subf main_v16 main_v37
  let main_v39 : FVec F S4096x2048x8 .f32 := Host.exp main_v38
  let main_cst_6 : FVec F S_ .f32 := constant S_ .f32 0x00000000#32
  fn_part2 (F := F) main_arg6 main_v1 main_v17 main_v32 main_v39 main_cst_6

def fn {F : FTy → Type} [FloatOps F] (main_arg0 : FVec F S4096x4096 .f32) (main_arg1 : FVec F S4096x1 .f32) (main_arg2 : FVec F S4096x64 .f32) (main_arg3 : FVec F S64 .f32) (main_arg4 : FVec F S64x49152 .f32) (main_arg5 : FVec F S49152 .f32) (main_arg6 : FVec F S1 .f32) (main_arg7 : IVec S_ 32) : IVec S4096x2x2048 1 × IVec S4096x1 1 :=
  let main_v0 : FVec F S4096x2048 .f32 := (extractStridedSlice S4096x2048 ![0, 0] · slices_S4096x4096_S4096x2048_0_0) main_arg0
  let main_v1 : FVec F S4096x2048 .f32 := (extractStridedSlice S4096x2048 ![0, 2048] · slices_S4096x4096_S4096x2048_0_2048) main_arg0
  let main_v2 : FVec F S4096x2048 .f32 := Host.cos main_v0
  let main_v3 : FVec F S4096x2048 .f32 := Host.sin main_v0
  let main_v4 : FVec F S4096x4096 .f32 := (fun a b => concatenate S4096x4096 1 [⟨S4096x2048, a⟩, ⟨S4096x2048, b⟩] concatenates_S4096x2048_S4096x2048_S4096x4096_d1) main_v2 main_v3
  let main_v5 : FVec F S4096x64 .f32 := (fun l r => Host.dotGeneral dot_S4096x4096_S4096x64_S4096x64_1_0_0_1_n_n none l r) main_v4 main_arg2
  let main_v6 : FVec F S1x64 .f32 := broadcastInDim S1x64 ![1] bcast_S64_S1x64_1 main_arg3
  let main_v7 : FVec F S4096x64 .f32 := broadcastInDim S4096x64 ![0, 1] bcast_S1x64_S4096x64_0_1 main_v6
  let main_v8 : FVec F S4096x64 .f32 := addf main_v5 main_v7
  let main_v9 : FVec F S4096x64 .f32 := Host.tanh main_v8
  let main_v10 : FVec F S4096x49152 .f32 := (fun l r => Host.dotGeneral dot_S4096x64_S64x49152_S4096x49152_1_0_0_1_n_n none l r) main_v9 main_arg4
  let main_v11 : FVec F S1x49152 .f32 := broadcastInDim S1x49152 ![1] bcast_S49152_S1x49152_1 main_arg5
  let main_v12 : FVec F S4096x49152 .f32 := broadcastInDim S4096x49152 ![0, 1] bcast_S1x49152_S4096x49152_0_1 main_v11
  let main_v13 : FVec F S4096x49152 .f32 := addf main_v10 main_v12
  let main_v14 : FVec F S4096x2048x24 .f32 := shapeCast S4096x2048x24 main_v13 shapeCasts_S4096x49152_S4096x2048x24
  let main_v15 : FVec F S4096x2048x8 .f32 := (extractStridedSlice S4096x2048x8 ![0, 0, 0] · slices_S4096x2048x24_S4096x2048x8_0_0_0) main_v14
  let main_v16 : FVec F S4096x2048x8 .f32 := (extractStridedSlice S4096x2048x8 ![0, 0, 8] · slices_S4096x2048x24_S4096x2048x8_0_0_8) main_v14
  let main_v17 : FVec F S4096x2048x8 .f32 := (extractStridedSlice S4096x2048x8 ![0, 0, 16] · slices_S4096x2048x24_S4096x2048x8_0_0_16) main_v14
  let main_cst : FVec F S_ .f32 := constant S_ .f32 0xFF800000#32
  let main_v18 : FVec F S4096x2048 .f32 := (fun x v => Host.reduce FloatOps.maximumf x v reducesTo_S4096x2048x8_S4096x2048_d2 h_S_) main_v15 main_cst
  let main_cst_0 : FVec F S_ .f32 := constant S_ .f32 0xFF800000#32
  let main_v19 : FVec F S4096x2048 .f32 := broadcastInDim S4096x2048 ![] bcast_S_S4096x2048 main_cst_0
  let main_v20 : FVec F S4096x2048 .f32 := maximumf main_v19 main_v18
  let main_v21 : FVec F S4096x2048x1 .f32 := broadcastInDim S4096x2048x1 ![0, 1] bcast_S4096x2048_S4096x2048x1_0_1 main_v20
  fn_part1 (F := F) main_arg6 main_v1 main_v15 main_v16 main_v17 main_v21
-- ==== Pre_softmax_weights_finite.lean ====
abbrev S4096x4096 : Shape := ⟨2, ![4096, 4096]⟩
abbrev S4096x1 : Shape := ⟨2, ![4096, 1]⟩
abbrev S4096x64 : Shape := ⟨2, ![4096, 64]⟩
abbrev S64 : Shape := ⟨1, ![64]⟩
abbrev S64x49152 : Shape := ⟨2, ![64, 49152]⟩
abbrev S49152 : Shape := ⟨1, ![49152]⟩
abbrev S1 : Shape := ⟨1, ![1]⟩
abbrev S_ : Shape := ⟨0, ![]⟩
abbrev S64x2048x24 : Shape := ⟨3, ![64, 2048, 24]⟩
abbrev S64x2048x16 : Shape := ⟨3, ![64, 2048, 16]⟩
abbrev S2048x24 : Shape := ⟨2, ![2048, 24]⟩
abbrev S2048x16 : Shape := ⟨2, ![2048, 16]⟩

class Facts : Prop where
  shapeCasts_S64x49152_S64x2048x24 : S64x49152.ShapeCasts S64x2048x24
  slices_S64x2048x24_S64x2048x16_0_0_0 : S64x2048x24.Slices ![0, 0, 0] S64x2048x16
  shapeCasts_S49152_S2048x24 : S49152.ShapeCasts S2048x24
  slices_S2048x24_S2048x16_0_0 : S2048x24.Slices ![0, 0] S2048x16
  bcast_S_S64x2048x16 : S_.BroadcastsInDim S64x2048x16 (![] : Fin 0 → Fin S64x2048x16.rank)
  bcast_S_S2048x16 : S_.BroadcastsInDim S2048x16 (![] : Fin 0 → Fin S2048x16.rank)

variable [Facts]

def fn {F : FTy → Type} [FloatOps F] (main_arg0 : FVec F S4096x4096 .f32) (main_arg1 : FVec F S4096x1 .f32) (main_arg2 : FVec F S4096x64 .f32) (main_arg3 : FVec F S64 .f32) (main_arg4 : FVec F S64x49152 .f32) (main_arg5 : FVec F S49152 .f32) (main_arg6 : FVec F S1 .f32) (main_arg7 : IVec S_ 32) : IVec S64x2048x16 1 × IVec S2048x16 1 :=
  let main_v0 : FVec F S64x2048x24 .f32 := shapeCast S64x2048x24 main_arg4 shapeCasts_S64x49152_S64x2048x24
  let main_v1 : FVec F S64x2048x16 .f32 := (extractStridedSlice S64x2048x16 ![0, 0, 0] · slices_S64x2048x24_S64x2048x16_0_0_0) main_v0
  let main_v2 : FVec F S2048x24 .f32 := shapeCast S2048x24 main_arg5 shapeCasts_S49152_S2048x24
  let main_v3 : FVec F S2048x16 .f32 := (extractStridedSlice S2048x16 ![0, 0] · slices_S2048x24_S2048x16_0_0) main_v2
  let main_v4 : FVec F S64x2048x16 .f32 := Host.absf main_v1
  let main_cst : FVec F S_ .f32 := constant S_ .f32 0x7F800000#32
  let main_v5 : FVec F S64x2048x16 .f32 := broadcastInDim S64x2048x16 ![] bcast_S_S64x2048x16 main_cst
  let main_v6 : IVec S64x2048x16 1 := cmpf .olt main_v4 main_v5
  let main_v7 : FVec F S2048x16 .f32 := Host.absf main_v3
  let main_cst_0 : FVec F S_ .f32 := constant S_ .f32 0x7F800000#32
  let main_v8 : FVec F S2048x16 .f32 := broadcastInDim S2048x16 ![] bcast_S_S2048x16 main_cst_0
  let main_v9 : IVec S2048x16 1 := cmpf .olt main_v7 main_v8
  (main_v6, main_v9)
-- ==== Kernel.lean ====
abbrev S4096x4096 : Shape := ⟨2, ![4096, 4096]⟩
abbrev S4096x1 : Shape := ⟨2, ![4096, 1]⟩
abbrev S4096x64 : Shape := ⟨2, ![4096, 64]⟩
abbrev S64 : Shape := ⟨1, ![64]⟩
abbrev S64x49152 : Shape := ⟨2, ![64, 49152]⟩
abbrev S49152 : Shape := ⟨1, ![49152]⟩
abbrev S1 : Shape := ⟨1, ![1]⟩
abbrev S_ : Shape := ⟨0, ![]⟩
abbrev S64x8x256x24 : Shape := ⟨4, ![64, 8, 256, 24]⟩
abbrev S8x64x24x256 : Shape := ⟨4, ![8, 64, 24, 256]⟩
abbrev S8x64x6144 : Shape := ⟨3, ![8, 64, 6144]⟩
abbrev S8x256x24 : Shape := ⟨3, ![8, 256, 24]⟩
abbrev S8x24x256 : Shape := ⟨3, ![8, 24, 256]⟩
abbrev S8x1x6144 : Shape := ⟨3, ![8, 1, 6144]⟩
abbrev S1x64 : Shape := ⟨2, ![1, 64]⟩
abbrev S1x1 : Shape := ⟨2, ![1, 1]⟩
abbrev S4096x2x2048 : Shape := ⟨3, ![4096, 2, 2048]⟩
abbrev S256x2048 : Shape := ⟨2, ![256, 2048]⟩
abbrev S256x256 : Shape := ⟨2, ![256, 256]⟩
abbrev S256x1 : Shape := ⟨2, ![256, 1]⟩
abbrev S256x2x256 : Shape := ⟨3, ![256, 2, 256]⟩
abbrev S256x64 : Shape := ⟨2, ![256, 64]⟩
abbrev S2048x64 : Shape := ⟨2, ![2048, 64]⟩
abbrev S256x1x256 : Shape := ⟨3, ![256, 1, 256]⟩
abbrev S1x64x6144 : Shape := ⟨3, ![1, 64, 6144]⟩
abbrev S64x6144 : Shape := ⟨2, ![64, 6144]⟩
abbrev S256x6144 : Shape := ⟨2, ![256, 6144]⟩
abbrev S1x1x6144 : Shape := ⟨3, ![1, 1, 6144]⟩
abbrev S1x6144 : Shape := ⟨2, ![1, 6144]⟩
abbrev S256 : Shape := ⟨1, ![256]⟩

abbrev nBuf : Space → Nat
  | .hbm => 18
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x1, .f32⟩
  | .hbm, ⟨2, _⟩ => ⟨S4096x64, .f32⟩
  | .hbm, ⟨3, _⟩ => ⟨S64, .f32⟩
  | .hbm, ⟨4, _⟩ => ⟨S64x49152, .f32⟩
  | .hbm, ⟨5, _⟩ => ⟨S49152, .f32⟩
  | .hbm, ⟨6, _⟩ => ⟨S1, .f32⟩
  | .hbm, ⟨7, _⟩ => ⟨S_, .i32⟩
  | .hbm, ⟨8, _⟩ => ⟨S64x8x256x24, .f32⟩
  | .hbm, ⟨9, _⟩ => ⟨S8x64x24x256, .f32⟩
  | .hbm, ⟨10, _⟩ => ⟨S8x64x6144, .f32⟩
  | .hbm, ⟨11, _⟩ => ⟨S8x256x24, .f32⟩
  | .hbm, ⟨12, _⟩ => ⟨S8x24x256, .f32⟩
  | .hbm, ⟨13, _⟩ => ⟨S8x1x6144, .f32⟩
  | .hbm, ⟨14, _⟩ => ⟨S1x64, .f32⟩
  | .hbm, ⟨15, _⟩ => ⟨S1x1, .f32⟩
  | .hbm, ⟨16, _⟩ => ⟨S4096x2x2048, .f32⟩
  | .hbm, ⟨17, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S4096x64, .f32⟩
  | .local _ .vmem, ⟨7, _⟩ => ⟨S1x64, .f32⟩
  | .local _ .vmem, ⟨8, _⟩ => ⟨S8x64x6144, .f32⟩
  | .local _ .vmem, ⟨9, _⟩ => ⟨S8x1x6144, .f32⟩
  | .local _ .vmem, ⟨10, _⟩ => ⟨S256x1, .f32⟩
  | .local _ .vmem, ⟨11, _⟩ => ⟨S256x1, .f32⟩
  | .local _ .vmem, ⟨12, _⟩ => ⟨S1x1, .f32⟩
  | .local _ .vmem, ⟨13, _⟩ => ⟨S256x2x256, .f32⟩
  | .local _ .vmem, ⟨14, _⟩ => ⟨S256x2x256, .f32⟩
  | .local _ .vmem, ⟨15, _⟩ => ⟨S256x1, .f32⟩
  | .local _ .vmem, ⟨16, _⟩ => ⟨S256x1, .f32⟩
  | .local _ .vmem, ⟨17, _⟩ => ⟨S256x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v8 : Index := Scalar.indexCast arg1
  let c0_7 : Index := 0#32
  let c0_8 : Index := 0#32
  ![v8.toNat, 0, 0]
def k0_off2 (i : grid0.Coords) : Fin 3 → Nat :=
  let arg1 : BitVec 32 := BitVec.ofNat 32 (i 1).val
  let v12 : Index := Scalar.indexCast arg1
  let c0_9 : Index := 0#32
  let c0_10 : Index := 0#32
  ![v12.toNat, 0, 0]
def k0_cond2 (i : grid0.Coords) : BitVec 1 :=
  let arg1 : BitVec 32 := BitVec.ofNat 32 (i 1).val
  let c0_i32_53 : BitVec 32 := 0#32
  let v345 : BitVec 1 := Scalar.cmpi .eq arg1 c0_i32_53
  let v346 : BitVec 32 := Scalar.extui v345
  let c0_i32_54 : BitVec 32 := 0#32
  let v347 : BitVec 1 := Scalar.cmpi .ne v346 c0_i32_54
  v347

def k0_cond3 (i : grid0.Coords) : BitVec 1 :=
  let arg1 : BitVec 32 := BitVec.ofNat 32 (i 1).val
  let c0_i32_55 : BitVec 32 := 0#32
  let v348 : BitVec 1 := Scalar.cmpi .sgt arg1 c0_i32_55
  let v349 : BitVec 32 := Scalar.extui v348
  let c0_i32_56 : BitVec 32 := 0#32
  let v350 : BitVec 1 := Scalar.cmpi .ne v349 c0_i32_56
  v350

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4096x4096 : Shape := ⟨2, ![4096, 4096]⟩
abbrev S4096x1 : Shape := ⟨2, ![4096, 1]⟩
abbrev S4096x64 : Shape := ⟨2, ![4096, 64]⟩
abbrev S64 : Shape := ⟨1, ![64]⟩
abbrev S64x49152 : Shape := ⟨2, ![64, 49152]⟩
abbrev S49152 : Shape := ⟨1, ![49152]⟩
abbrev S1 : Shape := ⟨1, ![1]⟩
abbrev S_ : Shape := ⟨0, ![]⟩
abbrev S4096x2048 : Shape := ⟨2, ![4096, 2048]⟩
abbrev S1x64 : Shape := ⟨2, ![1, 64]⟩
abbrev S4096x49152 : Shape := ⟨2, ![4096, 49152]⟩
abbrev S1x49152 : Shape := ⟨2, ![1, 49152]⟩
abbrev S4096x2048x24 : Shape := ⟨3, ![4096, 2048, 24]⟩
abbrev S4096x2048x8 : Shape := ⟨3, ![4096, 2048, 8]⟩
abbrev S4096x2048x1 : Shape := ⟨3, ![4096, 2048, 1]⟩
abbrev S4096x2048x9 : Shape := ⟨3, ![4096, 2048, 9]⟩
abbrev S4096x2048x1x1 : Shape := ⟨4, ![4096, 2048, 1, 1]⟩
abbrev S1x1x1x1 : Shape := ⟨4, ![1, 1, 1, 1]⟩
abbrev S1x1 : Shape := ⟨2, ![1, 1]⟩
abbrev S4096x2x2048 : Shape := ⟨3, ![4096, 2, 2048]⟩

abbrev nBuf : Space → Nat
  | .hbm => 343
  | .vmem => 0
  | .smem => 0
  | _ => 0

abbrev hbmTy0_0 (i : Nat) : BufTy := match i % 128 with
  | 0 => ⟨S4096x4096, .f32⟩
  | 1 => ⟨S4096x1, .f32⟩
  | 2 => ⟨S4096x64, .f32⟩
  | 3 => ⟨S64, .f32⟩
  | 4 => ⟨S64x49152, .f32⟩
  | 5 => ⟨S49152, .f32⟩
  | 6 => ⟨S1, .f32⟩
  | 7 => ⟨S_, .i32⟩
  | 8 => ⟨S4096x2048, .f32⟩
  | 9 => ⟨S4096x2048, .f32⟩
  | 10 => ⟨S4096x2048, .f32⟩
  | 11 => ⟨S4096x2048, .f32⟩
  | 12 => ⟨S4096x4096, .f32⟩
  | 13 => ⟨S4096x64, .f32⟩
  | 14 => ⟨S1x64, .f32⟩
  | 15 => ⟨S4096x64, .f32⟩
  | 16 => ⟨S4096x64, .f32⟩
  | 17 => ⟨S4096x64, .f32⟩
  | 18 => ⟨S4096x49152, .f32⟩
  | 19 => ⟨S1x49152, .f32⟩
  | 20 => ⟨S4096x49152, .f32⟩
  | 21 => ⟨S4096x49152, .f32⟩
  | 22 => ⟨S4096x2048x24, .f32⟩
  | 23 => ⟨S4096x2048x8, .f32⟩
  | 24 => ⟨S4096x2048x8, .f32⟩
  | 25 => ⟨S4096x2048x8, .f32⟩
  | 26 => ⟨S_, .f32⟩
  | 27 => ⟨S4096x2048, .f32⟩
  | 28 => ⟨S_, .f32⟩
  | 29 => ⟨S4096x2048, .f32⟩
  | 30 => ⟨S4096x2048, .f32⟩
  | 31 => ⟨S4096x2048x1, .f32⟩
  | 32 => ⟨S4096x2048x8, .f32⟩
  | 33 => ⟨S4096x2048x8, .f32⟩
  | 34 => ⟨S4096x2048x8, .f32⟩
  | 35 => ⟨S_, .f32⟩
  | 36 => ⟨S4096x2048, .f32⟩
  | 37 => ⟨S4096x2048x1, .f32⟩
  | 38 => ⟨S4096x2048x8, .f32⟩
  | 39 => ⟨S4096x2048x8, .f32⟩
  | 40 => ⟨S_, .f32⟩
  | 41 => ⟨S4096x2048x8, .f32⟩
  | 42 => ⟨S4096x2048x8, .f32⟩
  | 43 => ⟨S_, .f32⟩
  | 44 => ⟨S4096x2048x8, .f32⟩
  | 45 => ⟨S4096x2048x8, .f32⟩
  | 46 => ⟨S_, .f32⟩
  | 47 => ⟨S4096x2048, .f32⟩
  | 48 => ⟨S_, .f32⟩
  | 49 => ⟨S4096x2048, .f32⟩
  | 50 => ⟨S4096x2048, .f32⟩
  | 51 => ⟨S4096x2048x1, .f32⟩
  | 52 => ⟨S4096x2048x8, .f32⟩
  | 53 => ⟨S4096x2048x8, .f32⟩
  | 54 => ⟨S4096x2048x8, .f32⟩
  | 55 => ⟨S_, .f32⟩
  | 56 => ⟨S4096x2048, .f32⟩
  | 57 => ⟨S4096x2048x1, .f32⟩
  | 58 => ⟨S4096x2048x8, .f32⟩
  | 59 => ⟨S4096x2048x8, .f32⟩
  | 60 => ⟨S_, .f32⟩
  | 61 => ⟨S4096x2048x8, .f32⟩
  | 62 => ⟨S4096x2048x8, .f32⟩
  | 63 => ⟨S_, .f32⟩
  | 64 => ⟨S4096x2048x8, .f32⟩
  | 65 => ⟨S4096x2048x8, .f32⟩
  | 66 => ⟨S_, .f32⟩
  | 67 => ⟨S4096x2048x8, .f32⟩
  | 68 => ⟨S4096x2048x8, .f32⟩
  | 69 => ⟨S4096x2048x8, .f32⟩
  | 70 => ⟨S4096x2048x8, .f32⟩
  | 71 => ⟨S4096x2048x8, .i1⟩
  | 72 => ⟨S4096x2048x8, .f32⟩
  | 73 => ⟨S4096x2048x8, .f32⟩
  | 74 => ⟨S4096x2048x8, .f32⟩
  | 75 => ⟨S4096x2048x8, .f32⟩
  | 76 => ⟨S4096x2048x8, .f32⟩
  | 77 => ⟨S4096x2048x8, .f32⟩
  | 78 => ⟨S4096x2048x8, .f32⟩
  | 79 => ⟨S4096x2048x8, .f32⟩
  | 80 => ⟨S_, .f32⟩
  | 81 => ⟨S4096x2048x1, .f32⟩
  | 82 => ⟨S_, .f32⟩
  | 83 => ⟨S_, .f32⟩
  | 84 => ⟨S4096x2048x8, .f32⟩
  | 85 => ⟨S4096x2048x9, .f32⟩
  | 86 => ⟨S_, .f32⟩
  | 87 => ⟨S4096x2048x1, .f32⟩
  | 88 => ⟨S_, .f32⟩
  | 89 => ⟨S_, .f32⟩
  | 90 => ⟨S4096x2048x8, .f32⟩
  | 91 => ⟨S4096x2048x9, .f32⟩
  | 92 => ⟨S4096x2048x1, .f32⟩
  | 93 => ⟨S4096x2048x9, .f32⟩
  | 94 => ⟨S4096x2048x9, .i1⟩
  | 95 => ⟨S4096x2048x9, .i32⟩
  | 96 => ⟨S_, .i32⟩
  | 97 => ⟨S4096x2048, .i32⟩
  | 98 => ⟨S4096x2048x1, .i32⟩
  | 99 => ⟨S_, .i32⟩
  | 100 => ⟨S4096x2048x1, .i32⟩
  | 101 => ⟨S4096x2048x1, .i32⟩
  | 102 => ⟨S_, .i32⟩
  | 103 => ⟨S_, .i32⟩
  | 104 => ⟨S_, .i32⟩
  | 105 => ⟨S4096x2048x1, .i32⟩
  | 106 => ⟨S4096x2048x1, .i32⟩
  | 107 => ⟨S_, .i32⟩
  | 108 => ⟨S4096x2048x1, .i32⟩
  | 109 => ⟨S4096x2048x1, .i32⟩
  | 110 => ⟨S_, .i32⟩
  | 111 => ⟨S4096x2048x1, .i32⟩
  | 112 => ⟨S4096x2048x1, .i1⟩
  | 113 => ⟨S_, .i32⟩
  | 114 => ⟨S4096x2048x1, .i32⟩
  | 115 => ⟨S4096x2048x1, .i32⟩
  | 116 => ⟨S4096x2048x1, .i32⟩
  | 117 => ⟨S4096x2048x1x1, .i32⟩
  | 118 => ⟨S1, .i32⟩
  | 119 => ⟨S_, .i32⟩
  | 120 => ⟨S4096x2048x1x1, .i32⟩
  | 121 => ⟨S4096x2048x1x1, .i1⟩
  | 122 => ⟨S1x1x1x1, .i32⟩
  | 123 => ⟨S4096x2048x1x1, .i32⟩
  | 124 => ⟨S4096x2048x1x1, .i1⟩
  | 125 => ⟨S4096x2048x1x1, .i1⟩
  | 126 => ⟨S_, .i1⟩
  | 127 => ⟨S4096x2048x1, .i1⟩
  | _ => ⟨S4096x4096, .f32⟩

abbrev hbmTy0_1 (i : Nat) : BufTy := match i % 128 with
  | 0 => ⟨S4096x2048x1, .f32⟩
  | 1 => ⟨S_, .f32⟩
  | 2 => ⟨S4096x2048x1, .f32⟩
  | 3 => ⟨S4096x2048x1, .f32⟩
  | 4 => ⟨S_, .i32⟩
  | 5 => ⟨S4096x2048x1, .i32⟩
  | 6 => ⟨S4096x2048x1, .i1⟩
  | 7 => ⟨S_, .i32⟩
  | 8 => ⟨S4096x2048x1, .i32⟩
  | 9 => ⟨S4096x2048x1, .i32⟩
  | 10 => ⟨S4096x2048x1, .i32⟩
  | 11 => ⟨S4096x2048x1x1, .i32⟩
  | 12 => ⟨S1, .i32⟩
  | 13 => ⟨S_, .i32⟩
  | 14 => ⟨S4096x2048x1x1, .i32⟩
  | 15 => ⟨S4096x2048x1x1, .i1⟩
  | 16 => ⟨S1x1x1x1, .i32⟩
  | 17 => ⟨S4096x2048x1x1, .i32⟩
  | 18 => ⟨S4096x2048x1x1, .i1⟩
  | 19 => ⟨S4096x2048x1x1, .i1⟩
  | 20 => ⟨S_, .i1⟩
  | 21 => ⟨S4096x2048x1, .i1⟩
  | 22 => ⟨S4096x2048x1, .f32⟩
  | 23 => ⟨S_, .f32⟩
  | 24 => ⟨S4096x2048x1, .f32⟩
  | 25 => ⟨S4096x2048x1, .f32⟩
  | 26 => ⟨S4096x2048x1, .f32⟩
  | 27 => ⟨S_, .i32⟩
  | 28 => ⟨S4096x2048x1, .i32⟩
  | 29 => ⟨S4096x2048x1, .i1⟩
  | 30 => ⟨S_, .i32⟩
  | 31 => ⟨S4096x2048x1, .i32⟩
  | 32 => ⟨S4096x2048x1, .i32⟩
  | 33 => ⟨S4096x2048x1, .i32⟩
  | 34 => ⟨S4096x2048x1x1, .i32⟩
  | 35 => ⟨S1, .i32⟩
  | 36 => ⟨S_, .i32⟩
  | 37 => ⟨S4096x2048x1x1, .i32⟩
  | 38 => ⟨S4096x2048x1x1, .i1⟩
  | 39 => ⟨S1x1x1x1, .i32⟩
  | 40 => ⟨S4096x2048x1x1, .i32⟩
  | 41 => ⟨S4096x2048x1x1, .i1⟩
  | 42 => ⟨S4096x2048x1x1, .i1⟩
  | 43 => ⟨S_, .i1⟩
  | 44 => ⟨S4096x2048x1, .i1⟩
  | 45 => ⟨S4096x2048x1, .f32⟩
  | 46 => ⟨S_, .f32⟩
  | 47 => ⟨S4096x2048x1, .f32⟩
  | 48 => ⟨S4096x2048x1, .f32⟩
  | 49 => ⟨S_, .i32⟩
  | 50 => ⟨S4096x2048x1, .i32⟩
  | 51 => ⟨S4096x2048x1, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S4096x2048x1, .i32⟩
  | 59 => ⟨S4096x2048x1, .i32⟩
  | 60 => ⟨S_, .i32⟩
  | 61 => ⟨S4096x2048x1, .i32⟩
  | 62 => ⟨S4096x2048x1, .i1⟩
  | 63 => ⟨S_, .i32⟩
  | 64 => ⟨S4096x2048x1, .i32⟩
  | 65 => ⟨S4096x2048x1, .i1⟩
  | 66 => ⟨S_, .i32⟩
  | 67 => ⟨S_, .i1⟩
  | 68 => ⟨S4096x2048x1, .i1⟩
  | 69 => ⟨S4096x2048x1, .i1⟩
  | 70 => ⟨S4096x2048x1, .i1⟩
  | 71 => ⟨S4096x2048x1, .i32⟩
  | 72 => ⟨S4096x2048x1, .i32⟩
  | 73 => ⟨S4096x2048x1, .i32⟩
  | 74 => ⟨S_, .i32⟩
  | 75 => ⟨S4096x2048x1, .i32⟩
  | 76 => ⟨S4096x2048x1, .i1⟩
  | 77 => ⟨S_, .i32⟩
  | 78 => ⟨S4096x2048x1, .i32⟩
  | 79 => ⟨S4096x2048x1, .i32⟩
  | 80 => ⟨S4096x2048x1, .i32⟩
  | 81 => ⟨S4096x2048x1x1, .i32⟩
  | 82 => ⟨S1, .i32⟩
  | 83 => ⟨S_, .i32⟩
  | 84 => ⟨S4096x2048x1x1, .i32⟩
  | 85 => ⟨S4096x2048x1x1, .i1⟩
  | 86 => ⟨S1x1x1x1, .i32⟩
  | 87 => ⟨S4096x2048x1x1, .i32⟩
  | 88 => ⟨S4096x2048x1x1, .i1⟩
  | 89 => ⟨S4096x2048x1x1, .i1⟩
  | 90 => ⟨S_, .i1⟩
  | 91 => ⟨S4096x2048x1, .i1⟩
  | 92 => ⟨S4096x2048x1, .f32⟩
  | 93 => ⟨S_, .f32⟩
  | 94 => ⟨S4096x2048x1, .f32⟩
  | 95 => ⟨S4096x2048x1, .f32⟩
  | 96 => ⟨S_, .i32⟩
  | 97 => ⟨S4096x2048x1, .i32⟩
  | 98 => ⟨S4096x2048x1, .i1⟩
  | 99 => ⟨S_, .i32⟩
  | 100 => ⟨S4096x2048x1, .i32⟩
  | 101 => ⟨S4096x2048x1, .i32⟩
  | 102 => ⟨S4096x2048x1, .i32⟩
  | 103 => ⟨S4096x2048x1x1, .i32⟩
  | 104 => ⟨S1, .i32⟩
  | 105 => ⟨S_, .i32⟩
  | 106 => ⟨S4096x2048x1x1, .i32⟩
  | 107 => ⟨S4096x2048x1x1, .i1⟩
  | 108 => ⟨S1x1x1x1, .i32⟩
  | 109 => ⟨S4096x2048x1x1, .i32⟩
  | 110 => ⟨S4096x2048x1x1, .i1⟩
  | 111 => ⟨S4096x2048x1x1, .i1⟩
  | 112 => ⟨S_, .i1⟩
  | 113 => ⟨S4096x2048x1, .i1⟩
  | 114 => ⟨S4096x2048x1, .f32⟩
  | 115 => ⟨S_, .f32⟩
  | 116 => ⟨S4096x2048x1, .f32⟩
  | 117 => ⟨S4096x2048x1, .f32⟩
  | 118 => ⟨S_, .i32⟩
  | 119 => ⟨S4096x2048x1, .i32⟩
  | 120 => ⟨S4096x2048x1, .i1⟩
  | 121 => ⟨S_, .i32⟩
  | 122 => ⟨S4096x2048x1, .i32⟩
  | 123 => ⟨S4096x2048x1, .i32⟩
  | 124 => ⟨S4096x2048x1, .i32⟩
  | 125 => ⟨S4096x2048x1x1, .i32⟩
  | 126 => ⟨S1, .i32⟩
  | 127 => ⟨S_, .i32⟩
  | _ => ⟨S4096x4096, .f32⟩

abbrev hbmTy0_2 (i : Nat) : BufTy := match i % 128 with
  | 0 => ⟨S4096x2048x1x1, .i32⟩
  | 1 => ⟨S4096x2048x1x1, .i1⟩
  | 2 => ⟨S1x1x1x1, .i32⟩
  | 3 => ⟨S4096x2048x1x1, .i32⟩
  | 4 => ⟨S4096x2048x1x1, .i1⟩
  | 5 => ⟨S4096x2048x1x1, .i1⟩
  | 6 => ⟨S_, .i1⟩
  | 7 => ⟨S4096x2048x1, .i1⟩
  | 8 => ⟨S4096x2048x1, .f32⟩
  | 9 => ⟨S_, .f32⟩
  | 10 => ⟨S4096x2048x1, .f32⟩
  | 11 => ⟨S4096x2048x1, .f32⟩
  | 12 => ⟨S4096x2048x1, .f32⟩
  | 13 => ⟨S4096x2048x1, .f32⟩
  | 14 => ⟨S4096x2048x1, .f32⟩
  | 15 => ⟨S4096x2048x1, .f32⟩
  | 16 => ⟨S_, .f32⟩
  | 17 => ⟨S4096x2048x1, .f32⟩
  | 18 => ⟨S4096x2048x1, .f32⟩
  | 19 => ⟨S4096x2048x1, .f32⟩
  | 20 => ⟨S4096x2048x1, .f32⟩
  | 21 => ⟨S_, .f32⟩
  | 22 => ⟨S4096x2048x1, .f32⟩
  | 23 => ⟨S4096x2048x1, .f32⟩
  | 24 => ⟨S4096x2048x1, .f32⟩
  | 25 => ⟨S4096x2048x1, .f32⟩
  | 26 => ⟨S4096x2048x1, .f32⟩
  | 27 => ⟨S4096x2048x1, .f32⟩
  | 28 => ⟨S4096x2048x1, .f32⟩
  | 29 => ⟨S_, .f32⟩
  | 30 => ⟨S4096x2048x1, .f32⟩
  | 31 => ⟨S4096x2048x1, .f32⟩
  | 32 => ⟨S4096x2048x1, .f32⟩
  | 33 => ⟨S4096x2048x1, .f32⟩
  | 34 => ⟨S4096x2048x1, .f32⟩
  | 35 => ⟨S4096x2048x1, .f32⟩
  | 36 => ⟨S4096x2048x1, .f32⟩
  | 37 => ⟨S4096x2048, .f32⟩
  | 38 => ⟨S1x1, .f32⟩
  | 39 => ⟨S4096x2048, .f32⟩
  | 40 => ⟨S4096x2048, .f32⟩
  | 41 => ⟨S_, .f32⟩
  | 42 => ⟨S_, .f32⟩
  | 43 => ⟨S4096x2048, .f32⟩
  | 44 => ⟨S4096x2048, .f32⟩
  | 45 => ⟨S_, .f32⟩
  | 46 => ⟨S4096x2048, .f32⟩
  | 47 => ⟨S4096x2048, .i1⟩
  | 48 => ⟨S_, .f32⟩
  | 49 => ⟨S4096x2048, .f32⟩
  | 50 => ⟨S4096x2048, .i1⟩
  | 51 => ⟨S_, .f32⟩
  | 52 => ⟨S_, .i1⟩
  | 53 => ⟨S4096x2048, .i1⟩
  | 54 => ⟨S4096x2048, .i1⟩
  | 55 => ⟨S4096x2048, .i1⟩
  | 56 => ⟨S4096x2048, .f32⟩
  | 57 => ⟨S4096x2048, .f32⟩
  | 58 => ⟨S4096x2048, .f32⟩
  | 59 => ⟨S4096x2048x1, .f32⟩
  | 60 => ⟨S4096x2048x1, .f32⟩
  | 61 => ⟨S4096x2048x1, .f32⟩
  | 62 => ⟨S_, .f32⟩
  | 63 => ⟨S4096x2048x1, .f32⟩
  | 64 => ⟨S4096x2048x1, .f32⟩
  | 65 => ⟨S4096x2048x1, .f32⟩
  | 66 => ⟨S_, .f32⟩
  | 67 => ⟨S4096x2048x1, .f32⟩
  | 68 => ⟨S4096x2048x1, .f32⟩
  | 69 => ⟨S4096x2048x1, .f32⟩
  | 70 => ⟨S4096x2048x1, .f32⟩
  | 71 => ⟨S_, .f32⟩
  | 72 => ⟨S4096x2048x1, .f32⟩
  | 73 => ⟨S4096x2048x1, .f32⟩
  | 74 => ⟨S4096x2048x1, .f32⟩
  | 75 => ⟨S4096x2048x1, .f32⟩
  | 76 => ⟨S4096x2048x1, .f32⟩
  | 77 => ⟨S4096x2048x1, .f32⟩
  | 78 => ⟨S4096x2048x1, .f32⟩
  | 79 => ⟨S4096x2048x1, .f32⟩
  | 80 => ⟨S4096x2048, .f32⟩
  | 81 => ⟨S4096x4096, .f32⟩
  | 82 => ⟨S4096x2x2048, .f32⟩
  | 83 => ⟨S4096x2048x1, .f32⟩
  | 84 => ⟨S_, .f32⟩
  | 85 => ⟨S4096x1, .f32⟩
  | 86 => ⟨S4096x1, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_call1_call0_cst : Ref sig .tc := ⟨.hbm, 82, rfl⟩
abbrev main_call1_call0_v0 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_call2_call0_cst : Ref sig .tc := ⟨.hbm, 88, rfl⟩
abbrev main_call2_call0_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c : Ref sig .tc := ⟨.hbm, 96, rfl⟩
abbrev main_v59 : Ref sig .tc := ⟨.hbm, 97, rfl⟩
abbrev main_v60 : Ref sig .tc := ⟨.hbm, 98, rfl⟩
abbrev main_c_11 : Ref sig .tc := ⟨.hbm, 99, rfl⟩
abbrev main_v61 : Ref sig .tc := ⟨.hbm, 100, rfl⟩
abbrev main_v62 : Ref sig .tc := ⟨.hbm, 101, rfl⟩
abbrev main_c_12 : Ref sig .tc := ⟨.hbm, 102, rfl⟩
abbrev main_c_13 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v63 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v64 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_cst : Ref sig .tc := ⟨.hbm, 151, rfl⟩
abbrev main_call5_v14 : Ref sig .tc := ⟨.hbm, 152, rfl⟩
abbrev main_v65 : Ref sig .tc := ⟨.hbm, 153, rfl⟩
abbrev main_v66 : Ref sig .tc := ⟨.hbm, 154, rfl⟩
abbrev main_call6_c : Ref sig .tc := ⟨.hbm, 155, rfl⟩
abbrev main_call6_v0 : Ref sig .tc := ⟨.hbm, 156, rfl⟩
abbrev main_call6_v1 : Ref sig .tc := ⟨.hbm, 157, rfl⟩
abbrev main_call6_c_0 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_call6_v5 : Ref sig .tc := ⟨.hbm, 162, rfl⟩
abbrev main_call6_c_1 : Ref sig .tc := ⟨.hbm, 163, rfl⟩
abbrev main_call6_c_2 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_c_3 : Ref sig .tc := ⟨.hbm, 171, rfl⟩
abbrev main_call6_v12 : Ref sig .tc := ⟨.hbm, 172, rfl⟩
abbrev main_call6_v13 : Ref sig .tc := ⟨.hbm, 173, rfl⟩
abbrev main_call6_cst : Ref sig .tc := ⟨.hbm, 174, rfl⟩
abbrev main_call6_v14 : Ref sig .tc := ⟨.hbm, 175, rfl⟩
abbrev main_v67 : Ref sig .tc := ⟨.hbm, 176, rfl⟩
abbrev main_c_14 : Ref sig .tc := ⟨.hbm, 177, rfl⟩
abbrev main_v68 : Ref sig .tc := ⟨.hbm, 178, rfl⟩
abbrev main_v69 : Ref sig .tc := ⟨.hbm, 179, rfl⟩
abbrev main_c_15 : Ref sig .tc := ⟨.hbm, 180, rfl⟩
abbrev main_call7_v0 : Ref sig .tc := ⟨.hbm, 181, rfl⟩
abbrev main_call7_c : Ref sig .tc := ⟨.hbm, 182, rfl⟩
abbrev main_call7_v1 : Ref sig .tc := ⟨.hbm, 183, rfl⟩
abbrev main_call7_c_0 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_call7_c_1 : Ref sig .tc := ⟨.hbm, 188, rfl⟩
abbrev main_call7_v5 : Ref sig .tc := ⟨.hbm, 189, rfl⟩
abbrev main_call7_v6 : Ref sig .tc := ⟨.hbm, 190, rfl⟩
abbrev main_call7_c_2 : Ref sig .tc := ⟨.hbm, 191, rfl⟩
abbrev main_call7_v7 : Ref sig .tc := ⟨.hbm, 192, rfl⟩
abbrev main_call7_v8 : Ref sig .tc := ⟨.hbm, 193, rfl⟩
abbrev main_call7_c_3 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_v12 : Ref sig .tc := ⟨.hbm, 198, rfl⟩
abbrev main_call7_v13 : Ref sig .tc := ⟨.hbm, 199, rfl⟩
abbrev main_call7_v14 : Ref sig .tc := ⟨.hbm, 200, rfl⟩
abbrev main_v70 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_v11 : Ref sig .tc := ⟨.hbm, 217, rfl⟩
abbrev main_call8_c_3 : Ref sig .tc := ⟨.hbm, 218, rfl⟩
abbrev main_call8_v12 : Ref sig .tc := ⟨.hbm, 219, rfl⟩
abbrev main_call8_v13 : Ref sig .tc := ⟨.hbm, 220, rfl⟩
abbrev main_call8_cst : Ref sig .tc := ⟨.hbm, 221, rfl⟩
abbrev main_call8_v14 : Ref sig .tc := ⟨.hbm, 222, rfl⟩
abbrev main_v71 : Ref sig .tc := ⟨.hbm, 223, rfl⟩
abbrev main_call9_c : Ref sig .tc := ⟨.hbm, 224, rfl⟩
abbrev main_call9_v0 : Ref sig .tc := ⟨.hbm, 225, rfl⟩
abbrev main_call9_v1 : Ref sig .tc := ⟨.hbm, 226, rfl⟩
abbrev main_call9_c_0 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_call9_v5 : Ref sig .tc := ⟨.hbm, 231, rfl⟩
abbrev main_call9_c_1 : Ref sig .tc := ⟨.hbm, 232, rfl⟩
abbrev main_call9_c_2 : Ref sig .tc := ⟨.hbm, 233, rfl⟩
abbrev main_call9_v6 : Ref sig .tc := ⟨.hbm, 234, rfl⟩
abbrev main_call9_v7 : Ref sig .tc := ⟨.hbm, 235, rfl⟩
abbrev main_call9_v8 : Ref sig .tc := ⟨.hbm, 236, rfl⟩
abbrev main_call9_v9 : Ref sig .tc := ⟨.hbm, 237, rfl⟩
abbrev main_call9_v10 : Ref sig .tc := ⟨.hbm, 238, rfl⟩
abbrev main_call9_v11 : Ref sig .tc := ⟨.hbm, 239, rfl⟩
abbrev main_call9_c_3 : Ref sig .tc := ⟨.hbm, 240, rfl⟩
abbrev main_call9_v12 : Ref sig .tc := ⟨.hbm, 241, rfl⟩
abbrev main_call9_v13 : Ref sig .tc := ⟨.hbm, 242, rfl⟩
abbrev main_call9_cst : Ref sig .tc := ⟨.hbm, 243, rfl⟩
abbrev main_call9_v14 : Ref sig .tc := ⟨.hbm, 244, rfl⟩
abbrev main_v72 : Ref sig .tc := ⟨.hbm, 245, rfl⟩
abbrev main_call10_c : Ref sig .tc := ⟨.hbm, 246, rfl⟩
abbrev main_call10_v0 : Ref sig .tc := ⟨.hbm, 247, rfl⟩
abbrev main_call10_v1 : Ref sig .tc := ⟨.hbm, 248, rfl⟩
abbrev main_call10_c_0 : Ref sig .tc := ⟨.hbm, 249, rfl⟩
abbrev main_call10_v2 : Ref sig .tc := ⟨.hbm, 250, rfl⟩
abbrev main_call10_v3 : Ref sig .tc := ⟨.hbm, 251, rfl⟩
abbrev main_call10_v4 : Ref sig .tc := ⟨.hbm, 252, rfl⟩
abbrev main_call10_v5 : Ref sig .tc := ⟨.hbm, 253, rfl⟩
abbrev main_call10_c_1 : Ref sig .tc := ⟨.hbm, 254, rfl⟩
abbrev main_call10_c_2 : Ref sig .tc := ⟨.hbm, 255, rfl⟩
abbrev main_call10_v6 : Ref sig .tc := ⟨.hbm, 256, rfl⟩
abbrev main_call10_v7 : Ref sig .tc := ⟨.hbm, 257, rfl⟩
abbrev main_call10_v8 : Ref sig .tc := ⟨.hbm, 258, rfl⟩
abbrev main_call10_v9 : Ref sig .tc := ⟨.hbm, 259, rfl⟩
abbrev main_call10_v10 : Ref sig .tc := ⟨.hbm, 260, rfl⟩
abbrev main_call10_v11 : Ref sig .tc := ⟨.hbm, 261, rfl⟩
abbrev main_call10_c_3 : Ref sig .tc := ⟨.hbm, 262, rfl⟩
abbrev main_call10_v12 : Ref sig .tc := ⟨.hbm, 263, rfl⟩
abbrev main_call10_v13 : Ref sig .tc := ⟨.hbm, 264, rfl⟩
abbrev main_call10_cst : Ref sig .tc := ⟨.hbm, 265, rfl⟩
abbrev main_call10_v14 : Ref sig .tc := ⟨.hbm, 266, rfl⟩
abbrev main_v73 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_v77 : Ref sig .tc := ⟨.hbm, 271, rfl⟩
abbrev main_cst_16 : Ref sig .tc := ⟨.hbm, 272, rfl⟩
abbrev main_v78 : Ref sig .tc := ⟨.hbm, 273, rfl⟩
abbrev main_v79 : Ref sig .tc := ⟨.hbm, 274, rfl⟩
abbrev main_v80 : Ref sig .tc := ⟨.hbm, 275, rfl⟩
abbrev main_v81 : Ref sig .tc := ⟨.hbm, 276, rfl⟩
abbrev main_cst_17 : Ref sig .tc := ⟨.hbm, 277, rfl⟩
abbrev main_v82 : Ref sig .tc := ⟨.hbm, 278, rfl⟩
abbrev main_v83 : Ref sig .tc := ⟨.hbm, 279, rfl⟩
abbrev main_v84 : Ref sig .tc := ⟨.hbm, 280, rfl⟩
abbrev main_v85 : Ref sig .tc := ⟨.hbm, 281, rfl⟩
abbrev main_v86 : Ref sig .tc := ⟨.hbm, 282, rfl⟩
abbrev main_v87 : Ref sig .tc := ⟨.hbm, 283, rfl⟩
abbrev main_v88 : Ref sig .tc := ⟨.hbm, 284, rfl⟩
abbrev main_cst_18 : Ref sig .tc := ⟨.hbm, 285, rfl⟩
abbrev main_v89 : Ref sig .tc := ⟨.hbm, 286, rfl⟩
abbrev main_v90 : Ref sig .tc := ⟨.hbm, 287, rfl⟩
abbrev main_v91 : Ref sig .tc := ⟨.hbm, 288, rfl⟩
abbrev main_v92 : Ref sig .tc := ⟨.hbm, 289, rfl⟩
abbrev main_v93 : Ref sig .tc := ⟨.hbm, 290, rfl⟩
abbrev main_v94 : Ref sig .tc := ⟨.hbm, 291, rfl⟩
abbrev main_v95 : Ref sig .tc := ⟨.hbm, 292, rfl⟩
abbrev main_v96 : Ref sig .tc := ⟨.hbm, 293, rfl⟩
abbrev main_v97 : Ref sig .tc := ⟨.hbm, 294, rfl⟩
abbrev main_v98 : Ref sig .tc := ⟨.hbm, 295, rfl⟩
abbrev main_v99 : Ref sig .tc := ⟨.hbm, 296, rfl⟩
abbrev main_cst_19 : Ref sig .tc := ⟨.hbm, 297, rfl⟩
abbrev main_call11_v0 : Ref sig .tc := ⟨.hbm, 298, rfl⟩
abbrev main_call11_v1 : Ref sig .tc := ⟨.hbm, 299, rfl⟩
abbrev main_call11_v2 : Ref sig .tc := ⟨.hbm, 300, rfl⟩
abbrev main_call11_cst : Ref sig .tc := ⟨.hbm, 301, rfl⟩
abbrev main_call11_v3 : Ref sig .tc := ⟨.hbm, 302, rfl⟩
abbrev main_call11_v4 : Ref sig .tc := ⟨.hbm, 303, rfl⟩
abbrev main_call11_cst_0 : Ref sig .tc := ⟨.hbm, 304, rfl⟩
abbrev main_call11_v5 : Ref sig .tc := ⟨.hbm, 305, rfl⟩
abbrev main_call11_v6 : Ref sig .tc := ⟨.hbm, 306, rfl⟩
abbrev main_call11_cst_1 : Ref sig .tc := ⟨.hbm, 307, rfl⟩
abbrev main_call11_v7 : Ref sig .tc := ⟨.hbm, 308, rfl⟩
abbrev main_call11_v8 : Ref sig .tc := ⟨.hbm, 309, rfl⟩
abbrev main_call11_v9 : Ref sig .tc := ⟨.hbm, 310, rfl⟩
abbrev main_call11_v10 : Ref sig .tc := ⟨.hbm, 311, rfl⟩
abbrev main_call11_v11 : Ref sig .tc := ⟨.hbm, 312, rfl⟩
abbrev main_call11_v12 : Ref sig .tc := ⟨.hbm, 313, rfl⟩
abbrev main_v100 : Ref sig .tc := ⟨.hbm, 314, rfl⟩
abbrev main_v101 : Ref sig .tc := ⟨.hbm, 315, rfl⟩
abbrev main_v102 : Ref sig .tc := ⟨.hbm, 316, rfl⟩
abbrev main_v103 : Ref sig .tc := ⟨.hbm, 317, rfl⟩
abbrev main_cst_20 : Ref sig .tc := ⟨.hbm, 318, rfl⟩
abbrev main_v104 : Ref sig .tc := ⟨.hbm, 319, rfl⟩
abbrev main_v105 : Ref sig .tc := ⟨.hbm, 320, rfl⟩
abbrev main_v106 : Ref sig .tc := ⟨.hbm, 321, rfl⟩
abbrev main_cst_21 : Ref sig .tc := ⟨.hbm, 322, rfl⟩
abbrev main_v107 : Ref sig .tc := ⟨.hbm, 323, rfl⟩
abbrev main_v108 : Ref sig .tc := ⟨.hbm, 324, rfl⟩
abbrev main_v109 : Ref sig .tc := ⟨.hbm, 325, rfl⟩
abbrev main_v110 : Ref sig .tc := ⟨.hbm, 326, rfl⟩
abbrev main_cst_22 : Ref sig .tc := ⟨.hbm, 327, rfl⟩
abbrev main_v111 : Ref sig .tc := ⟨.hbm, 328, rfl⟩
abbrev main_v112 : Ref sig .tc := ⟨.hbm, 329, rfl⟩
abbrev main_v113 : Ref sig .tc := ⟨.hbm, 330, rfl⟩
abbrev main_v114 : Ref sig .tc := ⟨.hbm, 331, rfl⟩
abbrev main_v115 : Ref sig .tc := ⟨.hbm, 332, rfl⟩
abbrev main_v116 : Ref sig .tc := ⟨.hbm, 333, rfl⟩
abbrev main_v117 : Ref sig .tc := ⟨.hbm, 334, rfl⟩
abbrev main_v118 : Ref sig .tc := ⟨.hbm, 335, rfl⟩
abbrev main_v119 : Ref sig .tc := ⟨.hbm, 336, rfl⟩
abbrev main_v120 : Ref sig .tc := ⟨.hbm, 337, rfl⟩
abbrev main_v121 : Ref sig .tc := ⟨.hbm, 338, rfl⟩
abbrev main_v122 : Ref sig .tc := ⟨.hbm, 339, rfl⟩
abbrev main_cst_23 : Ref sig .tc := ⟨.hbm, 340, rfl⟩
abbrev main_v123 : Ref sig .tc := ⟨.hbm, 341, rfl⟩
abbrev main_v124 : Ref sig .tc := ⟨.hbm, 342, rfl⟩

abbrev nD : Nat := 1
abbrev τ : Topo := Topo.v7x

variable {F : FTy → Type} [FloatOps F]
-- ==== Proof.Spline.lean ====
/- The spline of one coordinate as plain functions on extended reals: eight width logits, eight height logits and eight
   derivative logits, the coordinate and the phase. The kernel's spelling and the reference's spelling of each stage,
   and the theorems that say the two spellings give one value. -/
module

public import Idealize.ShloMosaic.PureOps.Ideal
public import Idealize.ShloMosaic.PureOps.Ideal.Laws
public import Idealize.ShloMosaic.Lib.IdealHost

@[expose] public section

noncomputable section

namespace Cert.Spline

open Idealize.ShloMosaic

/-- The single-precision word nearest 2π. -/
abbrev twoPi : EReal := Ideal.ofBits .f32 0x40C90FDB#32
/-- The word of the number two. -/
abbrev two : EReal := Ideal.ofBits .f32 0x40000000#32
/-- The single-precision word nearest π. -/
abbrev onePi : EReal := Ideal.ofBits .f32 0x40490FDB#32
/-- The word of the number one. -/
abbrev one : EReal := Ideal.ofBits .f32 0x3F800000#32
/-- The word nearest −1e-6, the first knot. -/
abbrev negEps : EReal := Ideal.ofBits .f32 0xB58637BD#32
/-- The word of zero. -/
abbrev zero : EReal := Ideal.ofBits .f32 0x00000000#32

/-- The word of zero is zero. -/
theorem zero_eq : zero = 0 := Ideal.ofBits_zero_f32

/-- The word the kernel writes for 2π is exactly the product of the reference's words for two and for π. -/
theorem twoPi_eq : twoPi = two * onePi := by
  have h1 : twoPi = ((13176795 / 2 ^ 21 : ℝ) : EReal) := by
    simp [twoPi, Ideal.ofBits, Ideal.ieee, -EReal.coe_mul]; norm_num
  have h2 : two = ((2 : ℝ) : EReal) := by
    simp [two, Ideal.ofBits, Ideal.ieee, -EReal.coe_mul]; norm_num
  have h3 : onePi = ((13176795 / 2 ^ 22 : ℝ) : EReal) := by
    simp [onePi, Ideal.ofBits, Ideal.ieee, -EReal.coe_mul]; norm_num
  rw [h1, h2, h3, ← EReal.coe_mul]
  norm_num

/-! ### The softmax -/

/-- The largest of eight logits, folded from the left. -/
def mx (l : Fin 8 → EReal) : EReal :=
  max (max (max (max (max (max (max (l 0) (l 1)) (l 2)) (l 3)) (l 4)) (l 5)) (l 6)) (l 7)

/-- The exponential of a logit less the largest. -/
def ex (l : Fin 8 → EReal) (s : Fin 8) : EReal := Ideal.exp (l s - mx l)

/-- The eight exponentials summed from the left. -/
def tot (l : Fin 8 → EReal) : EReal :=
  ex l 0 + ex l 1 + ex l 2 + ex l 3 + ex l 4 + ex l 5 + ex l 6 + ex l 7

/-- The kernel's share: each exponential times one common factor, 2π over the total. -/
def shareK (l : Fin 8 → EReal) (s : Fin 8) : EReal := ex l s * Ideal.div twoPi (tot l)

/-- The reference's share: the softmax, times two, times π. -/
def shareR (l : Fin 8 → EReal) (s : Fin 8) : EReal := Ideal.div (ex l s) (tot l) * two * onePi

/-- An exponential is never below zero. -/
theorem exp_nonneg (x : EReal) : 0 ≤ Ideal.exp x := by
  induction x with
  | bot => simp
  | top => simp
  | coe r => simpa using EReal.coe_nonneg.2 (Real.exp_pos r).le

/-- The larger of two reals is a real. -/
theorem max_real (a b : EReal) (ha : ∃ r : ℝ, a = (r : EReal)) (hb : ∃ r : ℝ, b = (r : EReal)) :
    ∃ r : ℝ, max a b = (r : EReal) := by
  rcases max_choice a b with h | h <;> rw [h] <;> assumption

/-- The largest of eight reals is a real. -/
theorem mx_real (r : Fin 8 → ℝ) : ∃ M : ℝ, mx (fun s => (r s : EReal)) = (M : EReal) := by
  have h : ∀ s, ∃ q : ℝ, (r s : EReal) = (q : EReal) := fun s => ⟨_, rfl⟩
  exact max_real _ _ (max_real _ _ (max_real _ _ (max_real _ _ (max_real _ _ (max_real _ _ (max_real _ _ (h 0) (h 1))
    (h 2)) (h 3)) (h 4)) (h 5)) (h 6)) (h 7)

/-- Over real logits the exponentials' total is not zero. -/
theorem tot_ne_zero (l : Fin 8 → EReal) (h : ∀ s, ∃ r : ℝ, l s = (r : EReal)) : tot l ≠ 0 := by
  choose r hr using h
  obtain rfl : l = fun s => (r s : EReal) := funext hr
  obtain ⟨M, hM⟩ := mx_real r
  have h0 : 0 < ex (fun s => (r s : EReal)) 0 := by
    unfold ex
    rw [hM, ← EReal.coe_sub, Ideal.exp_coe]
    exact EReal.coe_pos.2 (Real.exp_pos _)
  have hn : ∀ s, 0 ≤ ex (fun s => (r s : EReal)) s := fun s => exp_nonneg _
  refine ne_of_gt (lt_of_lt_of_le h0 ?_)
  unfold tot
  have step : ∀ a b : EReal, 0 ≤ b → a ≤ a + b := fun a b hb => by simpa using add_le_add (le_refl a) hb
  exact ((((((step _ _ (hn 1)).trans (step _ _ (hn 2))).trans (step _ _ (hn 3))).trans (step _ _ (hn 4))).trans
    (step _ _ (hn 5))).trans (step _ _ (hn 6))).trans (step _ _ (hn 7))

/-- Over real logits the kernel's shares are the reference's. -/
theorem share_eq (l : Fin 8 → EReal) (h : ∀ s, ∃ r : ℝ, l s = (r : EReal)) : shareK l = shareR l := by
  have h0 := tot_ne_zero l h
  funext s
  unfold shareK shareR Ideal.div
  rw [if_neg h0, if_neg h0, twoPi_eq, mul_assoc (ex l s * (tot l)⁻¹), mul_comm (two * onePi), mul_assoc]

/-! ### The knots and the segment -/

/-- Nine knots: the first one given, then the running sums of the eight shares from the left. -/
def knot (z : EReal) (w : Fin 8 → EReal) : Fin 9 → EReal :=
  ![z, w 0, w 0 + w 1, w 0 + w 1 + w 2, w 0 + w 1 + w 2 + w 3, w 0 + w 1 + w 2 + w 3 + w 4,
    w 0 + w 1 + w 2 + w 3 + w 4 + w 5, w 0 + w 1 + w 2 + w 3 + w 4 + w 5 + w 6,
    w 0 + w 1 + w 2 + w 3 + w 4 + w 5 + w 6 + w 7]

/-- One if a knot lies strictly below the coordinate, else zero, as a 32-bit word. -/
def below (k x : EReal) : BitVec 32 := (Ideal.cmp .olt k x).setWidth 32

/-- How many of the nine knots lie strictly below the coordinate. -/
def count (k : Fin 9 → EReal) (x : EReal) : BitVec 32 :=
  below (k 0) x + below (k 1) x + below (k 2) x + below (k 3) x + below (k 4) x + below (k 5) x + below (k 6) x
    + below (k 7) x + below (k 8) x

/-- A word less one, brought into the range zero to seven. -/
def clip (c : BitVec 32) : BitVec 32 := IntOp.minsi 7#32 (IntOp.maxsi 0#32 (c - 1#32))

/-- A clipped word is below eight. -/
theorem clip_lt (c : BitVec 32) : (clip c).toNat < 8 := by
  unfold clip IntOp.minsi IntOp.maxsi
  generalize c - 1#32 = d
  by_cases h1 : BitVec.slt d 0#32
  · rw [if_pos h1]; decide
  · rw [if_neg h1]
    by_cases h2 : BitVec.slt 7#32 d
    · rw [if_pos h2]; decide
    · rw [if_neg h2]
      simp only [BitVec.slt, decide_eq_true_eq, not_lt, BitVec.toInt_eq_toNat_cond] at h1 h2
      simp only [BitVec.toNat_ofNat] at h1 h2
      split at h1 <;> split at h2 <;> omega

/-- The segment a coordinate lies in: the clipped count, as an index below eight. -/
def seg (k : Fin 9 → EReal) (x : EReal) : Fin 8 := ⟨(clip (count k x)).toNat, clip_lt _⟩

/-- The clipped count is the word of the segment's number. -/
theorem clip_count (k : Fin 9 → EReal) (x : EReal) : clip (count k x) = BitVec.ofNat 32 (seg k x).val :=
  by simp [seg]

/-- A chain of eight selections by the segment's word, the last one outermost, starting from `z`. -/
def chain (b : BitVec 32) (f : Fin 8 → EReal) (z : EReal) : EReal :=
  let sel (s : BitVec 32) (a p : EReal) : EReal := Scalar.select (IntOp.cmpi .eq b s) a p
  sel 7#32 (f 7) (sel 6#32 (f 6) (sel 5#32 (f 5) (sel 4#32 (f 4) (sel 3#32 (f 3) (sel 2#32 (f 2)
    (sel 1#32 (f 1) (sel 0#32 (f 0) z)))))))

/-- The chain of selections picks the entry of the segment. -/
theorem chain_eq (s : Fin 8) (f : Fin 8 → EReal) (z : EReal) : chain (BitVec.ofNat 32 s.val) f z = f s := by
  fin_cases s <;> rfl

/-! ### The derivatives at the knots -/

/-- The kernel's softplus. -/
def softplusK (v : EReal) : EReal := max v zero + Ideal.log1p (Ideal.exp (zero - max v (-v)))

/-- The reference's softplus, with the test for an undefined difference that `logaddexp` makes. -/
def softplusR (v : EReal) : EReal :=
  Scalar.select (Ideal.cmp .une (v - zero) (v - zero)) (v + zero)
    (max v zero + Ideal.log1p (Ideal.exp (-(max (v - zero) (-(v - zero))))))

/-- The two spellings of softplus agree. -/
theorem softplus_eq (v : EReal) : softplusK v = softplusR v := by
  unfold softplusK softplusR
  rw [zero_eq, sub_zero, zero_sub]
  simp [Ideal.cmp, Scalar.select]

/-! ### The rational-quadratic piece -/

/-- The relative position inside the segment. -/
def alpha (wk xk x : EReal) : EReal := Ideal.div (x - xk) wk

/-- The denominator, as the kernel multiplies it out. -/
def denomK (sk al dk dk1 : EReal) : EReal := sk + (dk1 + dk - two * sk) * (al * (one - al))

/-- The denominator, as the reference multiplies it out. -/
def denomR (sk al dk dk1 : EReal) : EReal := sk + (dk1 + dk - two * sk) * al * (one - al)

/-- The two denominators are one. -/
theorem denom_eq (sk al dk dk1 : EReal) : denomK sk al dk dk1 = denomR sk al dk dk1 := by
  unfold denomK denomR; rw [mul_assoc (dk1 + dk - two * sk)]

/-- The image before the phase, kernel's spelling. -/
def imageK (hk sk al dk dk1 pk : EReal) : EReal :=
  pk + Ideal.div (hk * (sk * al * al + dk * (al * (one - al)))) (denomK sk al dk dk1)

/-- The image before the phase, reference's spelling. -/
def imageR (hk sk al dk dk1 pk : EReal) : EReal :=
  pk + Ideal.div (hk * (sk * (al * al) + dk * al * (one - al))) (denomR sk al dk dk1)

/-- The two spellings of the image agree. -/
theorem image_eq (hk sk al dk dk1 pk : EReal) : imageK hk sk al dk dk1 pk = imageR hk sk al dk dk1 pk := by
  unfold imageK imageR; rw [denom_eq, mul_assoc sk, mul_assoc dk]

/-- The derivative, kernel's spelling. -/
def slopeK (sk al dk dk1 : EReal) : EReal :=
  Ideal.div (sk * sk * (dk1 * al * al + two * sk * (al * (one - al)) + dk * (one - al) * (one - al)))
    (denomK sk al dk dk1 * denomK sk al dk dk1)

/-- The derivative, reference's spelling. -/
def slopeR (sk al dk dk1 : EReal) : EReal :=
  Ideal.div (sk * sk * (dk1 * (al * al) + two * sk * al * (one - al) + dk * ((one - al) * (one - al))))
    (denomR sk al dk dk1 * denomR sk al dk dk1)

/-- The two spellings of the derivative agree. -/
theorem slope_eq (sk al dk dk1 : EReal) : slopeK sk al dk dk1 = slopeR sk al dk dk1 := by
  unfold slopeK slopeR; rw [denom_eq, mul_assoc dk1, mul_assoc (two * sk) al, mul_assoc dk]

/-! ### The remainder by 2π -/

/-- The kernel's remainder with the sign of the divisor. -/
def wrapK (y : EReal) : EReal :=
  Scalar.select (IntOp.andi (IntOp.xori (Ideal.cmp .olt (Ideal.remf y twoPi) zero) (Ideal.cmp .olt twoPi zero))
    (Ideal.cmp .one (Ideal.remf y twoPi) zero)) (Ideal.remf y twoPi + twoPi) (Ideal.remf y twoPi)

/-- The reference's remainder with the sign of the divisor. -/
def wrapR (y : EReal) : EReal :=
  Scalar.select (IntOp.andi (IntOp.cmpi .ne (Ideal.cmp .olt (Ideal.remf y twoPi) zero) (Ideal.cmp .olt twoPi zero))
    (Ideal.cmp .une (Ideal.remf y twoPi) zero)) (Ideal.remf y twoPi + twoPi) (Ideal.remf y twoPi)

/-- On one-bit words "differs" is exclusive or. -/
theorem ne_eq_xor (a b : BitVec 1) : IntOp.cmpi .ne a b = IntOp.xori a b := by
  revert a b; decide

/-- The two spellings of the remainder agree. -/
theorem wrap_eq (y : EReal) : wrapK y = wrapR y := by
  unfold wrapK wrapR
  rw [ne_eq_xor]
  rfl

/-! ### One coordinate from its logits -/

/-- The image of one coordinate, kernel's spelling. -/
def phiK (wl hl dl : Fin 8 → EReal) (x ph : EReal) : EReal :=
  let w := shareK wl
  let h := shareK hl
  let s := seg (knot negEps w) x
  wrapK (imageK (h s) (Ideal.div (h s) (w s)) (alpha (w s) (knot negEps w s.castSucc) x) (softplusK (dl s))
    (softplusK (dl (s + 1))) (knot zero h s.castSucc) + ph)

/-- The derivative of one coordinate, kernel's spelling. -/
def gradK (wl hl dl : Fin 8 → EReal) (x : EReal) : EReal :=
  let w := shareK wl
  let h := shareK hl
  let s := seg (knot negEps w) x
  slopeK (Ideal.div (h s) (w s)) (alpha (w s) (knot negEps w s.castSucc) x) (softplusK (dl s)) (softplusK (dl (s + 1)))

/-- The image of one coordinate, reference's spelling. -/
def phiR (wl hl dl : Fin 8 → EReal) (x ph : EReal) : EReal :=
  let w := shareR wl
  let h := shareR hl
  let s := seg (knot negEps w) x
  wrapR (imageR (h s) (Ideal.div (h s) (w s)) (alpha (w s) (knot negEps w s.castSucc) x) (softplusR (dl s))
    (softplusR (dl (s + 1))) (knot zero h s.castSucc) + ph)

/-- The derivative of one coordinate, reference's spelling. -/
def gradR (wl hl dl : Fin 8 → EReal) (x : EReal) : EReal :=
  let w := shareR wl
  let h := shareR hl
  let s := seg (knot negEps w) x
  slopeR (Ideal.div (h s) (w s)) (alpha (w s) (knot negEps w s.castSucc) x) (softplusR (dl s)) (softplusR (dl (s + 1)))

/-- Over real width and height logits the kernel's image is the reference's. -/
theorem phi_eq (wl hl dl : Fin 8 → EReal) (x ph : EReal) (hw : ∀ s, ∃ r : ℝ, wl s = (r : EReal))
    (hh : ∀ s, ∃ r : ℝ, hl s = (r : EReal)) : phiK wl hl dl x ph = phiR wl hl dl x ph := by
  unfold phiK phiR
  simp only [share_eq wl hw, share_eq hl hh, wrap_eq, image_eq, softplus_eq]

/-- Over real width and height logits the kernel's derivative is the reference's. -/
theorem grad_eq (wl hl dl : Fin 8 → EReal) (x : EReal) (hw : ∀ s, ∃ r : ℝ, wl s = (r : EReal))
    (hh : ∀ s, ∃ r : ℝ, hl s = (r : EReal)) : gradK wl hl dl x = gradR wl hl dl x := by
  unfold gradK gradR
  simp only [share_eq wl hw, share_eq hl hh, slope_eq, softplus_eq]

/-! ### The log density -/

/-- The logarithm of a number that is not infinite is not infinite. -/
theorem log_ne_top (x : EReal) (h : x < ⊤) : Ideal.log x ≠ ⊤ := by
  induction x with
  | bot => simp
  | top => simp at h
  | coe r => rw [Ideal.log_coe]; split <;> simp

/-- A finite sum of numbers none of which is `⊤` is not `⊤`. -/
theorem sum_ne_top {ι : Type} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (Finset.mem_insert_self a t)) (ih fun i hi => h i (Finset.mem_insert_of_mem hi))

/-- Taking off two numbers that are not `⊤` one after the other is taking off their sum. -/
theorem sub_sub_eq (x a b : EReal) (ha : a ≠ ⊤) (hb : b ≠ ⊤) : x - a - b = x - (a + b) := by
  rw [sub_eq_add_neg, sub_eq_add_neg, sub_eq_add_neg, EReal.neg_add (Or.inr hb) (Or.inl ha), add_assoc,
    sub_eq_add_neg]

/-- What is left of `x` after taking off the first `n` of a row of numbers, one after the other. -/
def peel (x : EReal) (p : Nat → EReal) : Nat → EReal
  | 0 => x
  | n + 1 => peel x p n - p n

/-- Taking off numbers that are not `⊤` one after the other is taking off their sum. -/
theorem peel_eq (x : EReal) (p : Nat → EReal) (n : Nat) (h : ∀ t < n, p t ≠ ⊤) :
    peel x p n = x - ∑ t ∈ Finset.range n, p t := by
  induction n with
  | zero => simp [peel]
  | succ n ih =>
    rw [peel, ih fun t ht => h t (by omega), Finset.sum_range_succ,
      sub_sub_eq _ _ _ (sum_ne_top _ _ fun t ht => h t (by have := Finset.mem_range.1 ht; omega)) (h n (by omega))]

end Cert.Spline

end
-- ==== Proof.Tile.lean ====
/- The values the kernel's body makes at one grid point, named in the order it makes them: from the hidden layer `h`, the
   block `W`, `b` of the second layer and the block `x` of coordinates to the image and the derivative's factors. -/
module

public import proofs.«01_k».proof.Proof.Gen.KernelIdeal.Skeleton
public import proofs.«01_k».proof.Proof.Spline
public import Idealize.ShloMosaic.Lib.Pointwise

@[expose] public section

set_option maxRecDepth 16384

noncomputable section

namespace Cert.Tile

open Idealize.ShloMosaic Cert.KernelIdeal Cert.KernelIdeal.Gen

/-- A tile of extended reals. -/
abbrev T := FVec Ideal S256x256 .f32

variable (h : Vec Ideal S256x64 .f32) (W : Vec Ideal S1x64x6144 .f32) (b : Vec Ideal S1x1x6144 .f32) (x : Vec Ideal S256x256 .f32)

/-- All 24 logits of every coordinate of the tile. -/
def net : FVec Ideal S256x6144 .f32 := k0_pay4 h W b

/-! The width logits 4 to 7, their largest, the first three exponentials and the fourth exponent. -/
def wl4 : T := k0_pay9 h W b
def wl5 : T := k0_pay10 h W b
def wl6 : T := k0_pay11 h W b
def wl7 : T := k0_pay12 h W b
def wmx : T := k0_pay13 h W b
def we0 : T := k0_pay14 h W b
def we1 : T := k0_pay15 h W b
def we2 : T := k0_pay16 h W b
def wd3 : T := k0_pay17 h W b

/-- A function of the nine width quantities above. -/
abbrev ofW {α : Type} (f : T → T → T → T → T → T → T → T → T → α) : α :=
  f (wl4 h W b) (wl5 h W b) (wl6 h W b) (wl7 h W b) (wmx h W b) (we0 h W b) (we1 h W b) (we2 h W b) (wd3 h W b)

/-! The eight widths. -/
def w0 : T := ofW h W b k0_pay24
def w1 : T := ofW h W b k0_pay25
def w2 : T := ofW h W b k0_pay26
def w3 : T := ofW h W b k0_pay27
def w4 : T := ofW h W b k0_pay28
def w5 : T := ofW h W b k0_pay29
def w6 : T := ofW h W b k0_pay30
def w7 : T := ofW h W b k0_pay31

/-! The knots 2 to 7, the running sums of the widths. -/
def x2 : T := ofW h W b k0_pay33
def x3 : T := ofW h W b k0_pay34
def x4 : T := ofW h W b k0_pay35
def x5 : T := ofW h W b k0_pay36
def x6 : T := ofW h W b k0_pay37
def x7 : T := ofW h W b k0_pay38

/-- How many of the first eight knots lie below the coordinate. -/
def cnt : IVec S256x256 32 := ofW h W b (k0_pay39 x)
/-- Whether the last knot lies below the coordinate. -/
def last : IVec S256x256 1 := ofW h W b (k0_pay40 x)
/-- The segment. -/
def sg : IVec S256x256 32 := k0_pay41 (cnt h W b x) (last h W b x)
/-- The segment's width. -/
def wk : T := k0_pay51 (w0 h W b) (w1 h W b) (w2 h W b) (w3 h W b) (w4 h W b) (w5 h W b) (w6 h W b) (w7 h W b)
  (cnt h W b x) (last h W b x)
/-- The knot the segment starts at. -/
def xk : T := k0_pay52 (w0 h W b) (k0_pay32 (F := Ideal)) (x2 h W b) (x3 h W b) (x4 h W b) (x5 h W b) (x6 h W b) (x7 h W b)
  (cnt h W b x) (last h W b x)

/-! The first seven height logits. -/
def hl0 : T := k0_pay53 (net h W b)
def hl1 : T := k0_pay54 (net h W b)
def hl2 : T := k0_pay55 (net h W b)
def hl3 : T := k0_pay56 (net h W b)
def hl4 : T := k0_pay57 (net h W b)
def hl5 : T := k0_pay58 (net h W b)
def hl6 : T := k0_pay59 (net h W b)

/-- A function of the height logits. -/
abbrev ofH {α : Type} (f : FVec Ideal S256x6144 .f32 → T → T → T → T → T → T → T → α) : α :=
  f (net h W b) (hl0 h W b) (hl1 h W b) (hl2 h W b) (hl3 h W b) (hl4 h W b) (hl5 h W b) (hl6 h W b)

/-! The heights 2 to 7 and their running sums. -/
def h2 : T := ofH h W b k0_pay73
def h3 : T := ofH h W b k0_pay74
def h4 : T := ofH h W b k0_pay75
def h5 : T := ofH h W b k0_pay76
def h6 : T := ofH h W b k0_pay77
def h7 : T := ofH h W b k0_pay78
def p2 : T := ofH h W b k0_pay79
def p3 : T := ofH h W b k0_pay80
def p4 : T := ofH h W b k0_pay81
def p5 : T := ofH h W b k0_pay82
def p6 : T := ofH h W b k0_pay83
def p7 : T := ofH h W b k0_pay84

/-- The height after the first two selections. -/
def hk1 : T := k0_pay87 (net h W b) (sg h W b x) (k0_pay42 (F := Ideal)) (hl0 h W b) (hl1 h W b) (hl2 h W b) (hl3 h W b)
  (hl4 h W b) (hl5 h W b) (hl6 h W b)
/-- The start of the image after the first two selections. -/
def pk1 : T := k0_pay88 (net h W b) (sg h W b x) (k0_pay42 (F := Ideal)) (hl0 h W b) (hl1 h W b) (hl2 h W b) (hl3 h W b)
  (hl4 h W b) (hl5 h W b) (hl6 h W b)
/-- The segment's height. -/
def hk : T := k0_pay96 (sg h W b x) (h2 h W b) (h3 h W b) (h4 h W b) (h5 h W b) (h6 h W b) (h7 h W b) (hk1 h W b x) k0_pay89
/-- The start of the segment's image. -/
def pk : T := k0_pay97 (sg h W b x) (p2 h W b) (p3 h W b) (p4 h W b) (p5 h W b) (p6 h W b) (p7 h W b) (pk1 h W b x) k0_pay89

/-! The raw derivative at the segment's two ends after four selections, the fifth mask and the fifth logit. -/
def dr : T := k0_pay102 (net h W b) (sg h W b x) (k0_pay42 (F := Ideal))
def dr1 : T := k0_pay103 (net h W b) (sg h W b x) (k0_pay42 (F := Ideal))
def m4 : IVec S256x256 1 := k0_pay104 (sg h W b x)
def dl4 : T := k0_pay105 (net h W b)
/-- The derivative at the segment's left end. -/
def dk : T := k0_pay109 (net h W b) (sg h W b x) (dr h W b x) (m4 h W b x) (dl4 h W b)
/-- The derivative at the segment's right end. -/
def dk1 : T := k0_pay110 (net h W b) (sg h W b x) (dr1 h W b x) (m4 h W b x)

/-! The slope, the relative position, one less it, their product, the denominator and the squared term. -/
def sk : T := k0_pay111 (wk h W b x) (hk h W b x)
def al : T := k0_pay112 x (wk h W b x) (xk h W b x)
def om : T := k0_pay113 x (wk h W b x) (xk h W b x)
def am : T := k0_pay114 x (wk h W b x) (xk h W b x)
def den : T := k0_pay115 (net h W b) x (sg h W b x) (wk h W b x) (xk h W b x) (hk h W b x) (dr h W b x) (dr1 h W b x)
  (m4 h W b x) (dl4 h W b)
def sq : T := k0_pay116 x (wk h W b x) (xk h W b x) (hk h W b x)

/-- The tile of images. -/
def phi (ph : Vec Ideal S1x1 .f32) : FVec Ideal S256x1x256 .f32 :=
  k0_pay117 (hk h W b x) (pk h W b x) (dk h W b x) (am h W b x) (den h W b x) (sq h W b x) ph

/-- The rows' sums of the logarithms of the derivatives. -/
def part : FVec Ideal S256x1 .f32 :=
  k0_pay118 (dk h W b x) (dk1 h W b x) (sk h W b x) (al h W b x) (om h W b x) (am h W b x) (den h W b x)

end Cert.Tile

end
-- ==== Proof.Outs.lean ====
/- What the kernel's body leaves at one grid point, in its two outputs and in the scratch it carries, from the contents of
   the inputs' staging buffers: the tile of images and the row sums of `Cert.Tile`, at the hidden layer. -/
module

public import proofs.«01_k».proof.Proof.Tile
public import proofs.«01_k».proof.Proof.Gen.KernelIdeal.Value
public import Idealize.ShloMosaic.Lib.VecWindow
public import Idealize.ShloMosaic.Lib.WholeRead

@[expose] public section

set_option maxRecDepth 16384

noncomputable section

namespace Cert.Outs

open Idealize.ShloMosaic Cert.KernelIdeal Cert.KernelIdeal.Gen

/-- The upper half of the first layer's weights. -/
def top (x3 : Vec Ideal S4096x64 .f32) : Vec Ideal S2048x64 .f32 := fun y => x3 (ix2 ⟨(y 0).val, by have := (y 0).isLt; simp at this; omega⟩ (y 1))

/-- The lower half of the first layer's weights. -/
def bot (x3 : Vec Ideal S4096x64 .f32) : Vec Ideal S2048x64 .f32 := fun y => x3 (ix2 ⟨2048 + (y 0).val, by have := (y 0).isLt; simp at this; omega⟩ (y 1))

/-- The hidden layer of a block of rows. -/
def hid (x0 : Vec Ideal S256x2048 .f32) (x3 : Vec Ideal S4096x64 .f32) (x4 : Vec Ideal S1x64 .f32) : Vec Ideal S256x64 .f32 :=
  k0_pay2 x0 (top x3) (bot x3) x4

/-- The second layer's weights of the point's tile. -/
def wtile (i : grid0.Coords) (x5 : Vec Ideal S8x64x6144 .f32) : Vec Ideal S1x64x6144 .f32 := fun y => x5 (ix3 (i 1) (y 1) (y 2))

/-- The second layer's bias of the point's tile. -/
def btile (i : grid0.Coords) (x6 : Vec Ideal S8x1x6144 .f32) : Vec Ideal S1x1x6144 .f32 := fun y => x6 (ix3 (i 1) (y 1) (y 2))

/-- A block of the first result: the coordinates kept, and their images. -/
def blk (x1 : Vec Ideal S256x256 .f32) (p : FVec Ideal S256x1x256 .f32) : Vec Ideal S256x2x256 .f32 := fun y =>
  if (y 1).val = 0 then x1 (ix2 (y 0) (y 2)) else p (ix3 (y 0) 0 (y 2))

section
variable (c : Dev nD) (i : grid0.Coords) (arg2 : Memref sig .tc .vmem S256x2048 .f32) (harg2 : arg2.IsWhole)
  (arg3 : Memref sig .tc .vmem S256x256 .f32) (harg3 : arg3.IsWhole) (arg4 : Memref sig .tc .vmem S256x256 .f32) (harg4 : arg4.IsWhole)
  (arg5 : Memref sig .tc .vmem S4096x64 .f32) (harg5 : arg5.IsWhole) (arg6 : Memref sig .tc .vmem S1x64 .f32) (harg6 : arg6.IsWhole)
  (arg7 : Memref sig .tc .vmem S8x64x6144 .f32) (harg7 : arg7.IsWhole) (arg8 : Memref sig .tc .vmem S8x1x6144 .f32) (harg8 : arg8.IsWhole)
  (arg9 : Memref sig .tc .vmem S256x1 .f32) (harg9 : arg9.IsWhole) (arg10 : Memref sig .tc .vmem S1x1 .f32) (harg10 : arg10.IsWhole)
  (arg11 : Memref sig .tc .vmem S256x2x256 .f32) (harg11 : arg11.IsWhole) (arg12 : Memref sig .tc .vmem S256x1 .f32) (harg12 : arg12.IsWhole)
  (arg13 : Memref sig .tc .vmem S256x64 .f32) (harg13 : arg13.IsWhole)
  (x0 : Vec Ideal S256x2048 .f32) (x1 : Vec Ideal S256x256 .f32) (x2 : Vec Ideal S256x256 .f32) (x3 : Vec Ideal S4096x64 .f32)
  (x4 : Vec Ideal S1x64 .f32) (x5 : Vec Ideal S8x64x6144 .f32) (x6 : Vec Ideal S8x1x6144 .f32) (x7 : Vec Ideal S256x1 .f32)
  (x8 : Vec Ideal S1x1 .f32) (xo10 : Vec Ideal S256x1 .f32) (xs0 : Vec Ideal S256x64 .f32)

/-- The row of the second layer the point reads is its tile's. -/
theorem off1_eq : k0_off1 i = ![(i 1).val, 0, 0] := by
  have h := (i 1).isLt
  have h' : (i 1).val < 8 := h
  unfold k0_off1
  simp [Scalar.indexCast]
  omega

/-- The tile of biases is read at the same offset. -/
theorem off2_eq : k0_off2 i = ![(i 1).val, 0, 0] := off1_eq i

/-- An offset along an axis of one element. -/
theorem off_add (n k : ℕ) (h : k < 1) : n + 1 * k = n := by omega

/-- The load of the tile's weights. -/
theorem wtile_load : View.readAt (Elt Ideal) arg7.view (Rect.unit (s := S8x64x6144) (k0_off1 i) S1x64x6144.size (k0_off1_inb i)).toLoadRect
    (harg7.unread x5) = wtile i x5 := by
  funext y
  rw [harg7.readAt_unread]
  refine congrArg x5 (funext fun a => Fin.ext ?_)
  refine (congrArg (· + 1 * (y a).val) (congrFun (off1_eq i) a)).trans ?_
  match a with
  | ⟨0, _⟩ => exact off_add _ _ (y 0).isLt
  | ⟨1, _⟩ => show 0 + 1 * (y 1).val = (y 1).val; omega
  | ⟨2, _⟩ => show 0 + 1 * (y 2).val = (y 2).val; omega

/-- The load of the tile's bias. -/
theorem btile_load : View.readAt (Elt Ideal) arg8.view (Rect.unit (s := S8x1x6144) (k0_off2 i) S1x1x6144.size (k0_off2_inb i)).toLoadRect
    (harg8.unread x6) = btile i x6 := by
  funext y
  rw [harg8.readAt_unread]
  refine congrArg x6 (funext fun a => Fin.ext ?_)
  refine (congrArg (· + 1 * (y a).val) (congrFun (off2_eq i) a)).trans ?_
  match a with
  | ⟨0, _⟩ => exact off_add _ _ (y 0).isLt
  | ⟨1, _⟩ => show 0 + 1 * (y 1).val = (y 1).val; omega
  | ⟨2, _⟩ => show 0 + 1 * (y 2).val = (y 2).val; omega

/-- The loads of the two halves of the first layer's weights. -/
theorem top_load : View.readAt (Elt Ideal) arg5.view (Rect.unit (s := S4096x64) ![0, 0] S2048x64.size inb_S4096x64_S2048x64_0_0).toLoadRect
    (harg5.unread x3) = top x3 := by
  funext y
  rw [harg5.readAt_unread]
  refine congrArg x3 (funext fun a => Fin.ext ?_)
  match a with
  | ⟨0, _⟩ => show 0 + 1 * (y 0).val = (y 0).val; omega
  | ⟨1, _⟩ => show 0 + 1 * (y 1).val = (y 1).val; omega

/-- The lower half of the first layer's weights, as loaded. -/
theorem bot_load : View.readAt (Elt Ideal) arg5.view (Rect.unit (s := S4096x64) ![2048, 0] S2048x64.size inb_S4096x64_S2048x64_2048_0).toLoadRect
    (harg5.unread x3) = bot x3 := by
  funext y
  rw [harg5.readAt_unread]
  refine congrArg x3 (funext fun a => Fin.ext ?_)
  match a with
  | ⟨0, _⟩ => show 2048 + 1 * (y 0).val = 2048 + (y 0).val; omega
  | ⟨1, _⟩ => show 0 + 1 * (y 1).val = (y 1).val; omega

/-- A load of a whole staging buffer reads its contents. -/
theorem whole_load {s : Shape} {e : EltTy} {κ : Kind} {sp : Space} (a : Memref sig κ sp s e) (h : a.IsWhole) (x : s.Idx → Elt Ideal e) {off : Fin s.rank → ℕ}
    (inb : ∀ k, off k + s.size k ≤ s.size k) : View.readAt (Elt Ideal) a.view (Rect.unit off s.size inb).toLoadRect (h.unread x) = x := by
  rw [View.readAt_full, h.read_unread]

/-- The stores' pieces of the first output, read back: the coordinates kept and the images. -/
theorem blk_read {sp : Space} (v : View sig .tc sp S256x2x256 .f32) (f) (p q : FVec Ideal S256x1x256 .f32) :
    v.read (Elt Ideal) (v.writes (Elt Ideal) f [⟨Rect.unit ![0, 1, 0] S256x1x256.size inb_S256x2x256_S256x1x256_0_1_0, p⟩,
      ⟨Rect.unit ![0, 0, 0] S256x1x256.size inb_S256x2x256_S256x1x256_0_0_0, q⟩])
      = fun y => if (y 1).val = 0 then q (ix3 (y 0) 0 (y 2)) else p (ix3 (y 0) 0 (y 2)) := by
  funext y
  have h1 : (y 1).val < 2 := (y 1).isLt
  by_cases h : (y 1).val = 0
  · rw [if_pos h]
    refine (View.read_writes_cons_unit_of_not_mem v f inb_S256x2x256_S256x1x256_0_1_0 p _ y rfl (1 : Fin 3)
      (.inl (show (y 1).val < 1 by omega))).trans
      (View.read_writes_cons_unit_of_mem v f inb_S256x2x256_S256x1x256_0_0_0 q [] y (ix3 (y 0) 0 (y 2)) rfl ?_)
    intro a
    match a with
    | ⟨0, _⟩ => exact (Nat.zero_add _).symm
    | ⟨1, _⟩ => exact h
    | ⟨2, _⟩ => exact (Nat.zero_add _).symm
  · rw [if_neg h]
    refine View.read_writes_cons_unit_of_mem v f inb_S256x2x256_S256x1x256_0_1_0 p _ y (ix3 (y 0) 0 (y 2)) rfl ?_
    intro a
    match a with
    | ⟨0, _⟩ => exact (Nat.zero_add _).symm
    | ⟨1, _⟩ => show (y 1).val = 1; omega
    | ⟨2, _⟩ => exact (Nat.zero_add _).symm

/-- The coordinates kept, as the kernel stores them. -/
theorem pay3_eq : k0_pay3 x1 = fun y => x1 (ix2 (y 0) (y 2)) := by
  funext y
  unfold k0_pay3
  refine shapeCast_apply _ _ y (ix2 (y 0) (y 2)) ?_
  have h : (y 1).val < 1 := (y 1).isLt
  rw [Shape.rowMajor_val_two, Shape.rowMajor_val_three]
  simp
  omega

/-- The hidden layer the first point of a row of tiles computes. -/
theorem hid_A : kernelRun0_A.sl.v7 c arg2 harg2 arg5 harg5 arg6 harg6 arg13 x0 x3 x4 = hid x0 x3 x4 := by
  unfold kernelRun0_A.sl.v7 kernelRun0_A.sl.HS0_1
  rw [View.readCov_full, whole_load, top_load, bot_load, whole_load]
  rfl

/-- What the first point of a row of tiles leaves in the first output. -/
theorem out_A_9 (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11
      arg12 harg12 arg13 harg13 hc0 hc1 hc2 x0 x1 x2 x3 x4 x5 x6 x7 x8
      = blk x1 (Tile.phi (hid x0 x3 x4) (wtile i x5) (btile i x6) x2 x8) := by
  rw [← hid_A c arg2 harg2 arg5 harg5 arg6 harg6 arg13 x0 x3 x4, ← wtile_load i arg7 harg7, ← btile_load i arg8 harg8]
  unfold out0_A_9 kernelRun0_A
  dsimp only
  rw [whole_load arg10 harg10, whole_load arg3 harg3]
  refine (blk_read _ _ _ _).trans ?_
  rw [pay3_eq]
  conv_rhs => rw [← whole_load arg4 harg4 x2 inb_S256x256_S256x256_0_0]
  rfl

/-- What that point leaves in the second output. -/
theorem out_A_10 (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11
      arg12 harg12 arg13 harg13 hc0 hc1 hc2 x0 x1 x2 x3 x4 x5 x6 x7 x8
      = subf x7 (Tile.part (hid x0 x3 x4) (wtile i x5) (btile i x6) x2) := by
  rw [← hid_A c arg2 harg2 arg5 harg5 arg6 harg6 arg13 x0 x3 x4, ← wtile_load i arg7 harg7, ← btile_load i arg8 harg8]
  unfold out0_A_10 kernelRun0_A
  dsimp only
  rw [whole_load arg9 harg9, View.read_writes_full]
  conv_rhs => rw [← whole_load arg4 harg4 x2 inb_S256x256_S256x256_0_0]
  rfl

/-- What that point leaves in the scratch. -/
theorem sout_A_0 (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11
      arg12 harg12 arg13 harg13 hc0 hc1 hc2 x0 x1 x2 x3 x4 x5 x6 x7 x8 = hid x0 x3 x4 := by
  unfold sout0_A_0 kernelRun0_A
  dsimp only
  unfold kernelRun0_A.sl.HS0_1
  rw [View.read_writes_full, whole_load, top_load, bot_load, whole_load]
  rfl

/-- What any other point leaves in the first output. -/
theorem out_B_9 (hc0 : ¬cond0_0 i) (hc1 : ¬cond0_1 i) (hc2 : cond0_2 i) :
    out0_B_9 c i arg2 harg2 arg3 harg3 arg4 harg4 arg5 harg5 arg6 harg6 arg7 harg7 arg8 harg8 arg9 harg9 arg10 harg10 arg11 harg11
      arg12 harg12 arg13 harg13 hc0 hc1 hc2 x0 x1 x2 x3 x4 x5 x6 x7 x8 xo10 xs0
      = blk x1 (Tile.phi xs0 (wtile i x5) (btile i x6) x2 x8) := by
  rw [← wtile_load i arg7 harg7, ← btile_load i arg8 harg8]
  unfold out0_B_9 kernelRun0_B
  dsimp only
  rw [whole_load arg10 harg10, whole_load arg3 harg3]
  refine (blk_read _ _ _ _).trans ?_
  rw [pay3_eq]
  conv_rhs => rw [← whole_load arg4 harg4 x2 inb_S256x256_S256x256_0_0, ← whole_load arg13 harg13 xs0 inb_S256x64_S256x64_0_0]
  rfl

/-- What any other point leaves in the second output. -/
theorem out_B_10 (hc0 : ¬cond0_0 i) (hc1 : ¬cond0_1 i) (hc2 : cond0_2 i) :
    out0_B_10 c i arg2 harg2 arg3 harg3 arg4 harg4 arg5 harg5 arg6 harg6 arg7 harg7 arg8 harg8 arg9 harg9 arg10 harg10 arg11 harg11
      arg12 harg12 arg13 harg13 hc0 hc1 hc2 x0 x1 x2 x3 x4 x5 x6 x7 x8 xo10 xs0
      = subf xo10 (Tile.part xs0 (wtile i x5) (btile i x6) x2) := by
  rw [← wtile_load i arg7 harg7, ← btile_load i arg8 harg8]
  unfold out0_B_10 kernelRun0_B
  dsimp only
  rw [whole_load arg12 harg12, View.read_writes_full]
  unfold k0_pay1
  rw [shapeCast_self]
  conv_rhs => rw [← whole_load arg4 harg4 x2 inb_S256x256_S256x256_0_0, ← whole_load arg13 harg13 xs0 inb_S256x64_S256x64_0_0]
  rfl

end

end Cert.Outs

end
-- ==== Proof.TileAt.lean ====
/- The values the kernel's body makes at one grid point, read at one coordinate of the tile: each is the scalar function of
   `Cert.Spline` with the same name, of the coordinate's 24 logits. -/
module

public import proofs.«01_k».proof.Proof.Tile

@[expose] public section

set_option maxRecDepth 16384

noncomputable section

namespace Cert.Tile

open Idealize.ShloMosaic Cert.KernelIdeal Cert.KernelIdeal.Gen Cert.Spline

/-- The column of the tile's `p`-th logit of coordinate `c`. -/
def col (p : Fin 24) (c : Fin 256) : Fin 6144 := ⟨p.val * 256 + c.val, by omega⟩

/-- The width logits of coordinate `c` in row `r`. -/
def wlog (n : FVec Ideal S256x6144 .f32) (r c : Fin 256) (s : Fin 8) : EReal := n (ix2 r (col ⟨8 + s.val, by omega⟩ c))
/-- The height logits of coordinate `c` in row `r`. -/
def hlog (n : FVec Ideal S256x6144 .f32) (r c : Fin 256) (s : Fin 8) : EReal := n (ix2 r (col ⟨s.val, by omega⟩ c))
/-- The derivative logits of coordinate `c` in row `r`. -/
def dlog (n : FVec Ideal S256x6144 .f32) (r c : Fin 256) (s : Fin 8) : EReal := n (ix2 r (col ⟨16 + s.val, by omega⟩ c))

/-- The offsets of a slice of 256 of the 6144 columns, starting at the `p`-th multiple of 256. -/
theorem slices_col (p : Fin 24) : S256x6144.Slices ![0, p.val * 256] S256x256 := by
  revert p; decide

/-- The `p`-th logit of every coordinate of the tile. -/
def sl (n : FVec Ideal S256x6144 .f32) (p : Fin 24) : T := extractStridedSlice S256x256 ![0, p.val * 256] n (slices_col p)

/-- A slice of the logits at a coordinate. -/
theorem sl_at (n : FVec Ideal S256x6144 .f32) (p : Fin 24) (r c : Fin 256) : sl n p (ix2 r c) = n (ix2 r (col p c)) := by
  unfold sl extractStridedSlice
  refine congrArg n (funext fun a => Fin.ext ?_)
  match a with
  | ⟨0, _⟩ => exact Nat.zero_add _
  | ⟨1, _⟩ => rfl

/-- The kernel's softplus of a vector, read at an index. -/
theorem softplus_at (v : T) (i : S256x256.Idx) :
    addf (maximumf v (broadcast S256x256 (Scalar.ofBits .f32 0x00000000#32)))
      (log1p (exp (subf (broadcast S256x256 (Scalar.ofBits .f32 0x00000000#32)) (absf v)))) i = softplusK (v i) := rfl

/-- The image's last steps, read at an index: the quotient and the knot are added to the phase and wrapped. -/
theorem pay117_at (hk pk dk am den sq : T) (ph : Vec Ideal S1x1 .f32) (r : Fin 256) (z : Fin 1) (c : Fin 256) :
    k0_pay117 hk pk dk am den sq ph (ix3 r z c)
      = wrapK (pk (ix2 r c) + Ideal.div (hk (ix2 r c) * (sq (ix2 r c) + dk (ix2 r c) * am (ix2 r c))) (den (ix2 r c))
          + ph (ix2 0 0)) := by
  unfold k0_pay117
  refine (shapeCast_apply _ _ (ix3 r z c) (ix2 r c) ?_).trans ?_
  · rw [Shape.rowMajor_val_two, Shape.rowMajor_val_three]
    simp
  · have e : (fun a : Fin S1x1.rank => (⟨(![0, 0] : Fin 2 → Nat) a, inpos_S1x1_p0_0 a⟩ : Fin (S1x1.size a))) = ix2 0 0 := by
      funext a; match a with | ⟨0, _⟩ => rfl | ⟨1, _⟩ => rfl
    rw [← e]
    rfl

/-- The vector of derivatives' logarithms the kernel sums. -/
def logs (dk dk1 sk al om am den : T) : T :=
  log (divf (mulf (mulf sk sk) (addf (addf (mulf (mulf dk1 al) al)
    (mulf (mulf (broadcast S256x256 (Scalar.ofBits .f32 0x40000000#32)) sk) am)) (mulf (mulf dk om) om))) (mulf den den))

/-- The logarithms read at an index. -/
theorem logs_at (dk dk1 sk al om am den : T) (i : S256x256.Idx) : logs dk dk1 sk al om am den i
    = Ideal.log (Ideal.div (sk i * sk i * (dk1 i * al i * al i + two * sk i * am i + dk i * om i * om i)) (den i * den i)) := rfl

/-- A row's sum of logarithms. -/
theorem pay118_at (dk dk1 sk al om am den : T) (r : Fin 256) (z : Fin 1) :
    k0_pay118 dk dk1 sk al om am den (ix2 r z) = ∑ c : Fin 256, logs dk dk1 sk al om am den (ix2 r c) := by
  have e : k0_pay118 dk dk1 sk al om am den = shapeCast S256x1 (multiReduction .add [1] S256 (logs dk dk1 sk al om am den)
    0x00000000#32 reduces_S256x256_S256 (.inl rfl) rfl) shapeCasts_S256_S256x1 := rfl
  rw [e]
  generalize logs dk dk1 sk al om am den = v
  pointwise

variable (h : Vec Ideal S256x64 .f32) (W : Vec Ideal S1x64x6144 .f32) (b : Vec Ideal S1x1x6144 .f32) (x : Vec Ideal S256x256 .f32)
  (r c : Fin 256)

/-! ### The widths -/

/-- The slices of width logits. -/
def wl (s : Fin 8) : T := sl (net h W b) ⟨8 + s.val, by omega⟩

/-- A width logit, at an entry. -/
theorem wl_at (s : Fin 8) : wl h W b s (ix2 r c) = wlog (net h W b) r c s := sl_at _ _ r c

/-- The largest width logit. -/
theorem wmx_at : wmx h W b (ix2 r c) = mx (wlog (net h W b) r c) := by
  unfold mx
  simp only [← wl_at]
  rfl

/-- The eight exponentials of the widths' softmax. -/
def we : Fin 8 → T := ![we0 h W b, we1 h W b, we2 h W b, k0_pay18 (wd3 h W b), k0_pay19 (wl4 h W b) (wmx h W b),
  k0_pay20 (wl5 h W b) (wmx h W b), k0_pay21 (wl6 h W b) (wmx h W b), k0_pay22 (wl7 h W b) (wmx h W b)]

/-- An exponential of the widths' softmax. -/
theorem we_at (s : Fin 8) : we h W b s (ix2 r c) = ex (wlog (net h W b) r c) s := by
  unfold ex
  rw [← wmx_at, ← wl_at]
  fin_cases s <;> rfl

/-- The widths' common scale. -/
theorem wsc_at : ofW h W b k0_pay23 (ix2 r c) = Ideal.div twoPi (tot (wlog (net h W b) r c)) := by
  unfold tot
  simp only [← we_at]
  rfl

/-- The eight widths. -/
def wv : Fin 8 → T := ![w0 h W b, w1 h W b, w2 h W b, w3 h W b, w4 h W b, w5 h W b, w6 h W b, w7 h W b]

/-- The widths are the kernel's shares of the width logits. -/
theorem wv_at (s : Fin 8) : wv h W b s (ix2 r c) = shareK (wlog (net h W b) r c) s := by
  unfold shareK
  rw [← wsc_at, ← we_at]
  fin_cases s <;> rfl

/-- The nine knots. -/
def xv : Fin 9 → T := ![k0_pay32 (F := Ideal), w0 h W b, x2 h W b, x3 h W b, x4 h W b, x5 h W b, x6 h W b, x7 h W b,
  addf (x7 h W b) (w7 h W b)]

/-- A knot of the widths. -/
theorem xv_at (s : Fin 9) : xv h W b s (ix2 r c) = knot negEps (shareK (wlog (net h W b) r c)) s := by
  unfold knot
  simp only [← wv_at]
  fin_cases s <;> rfl

/-- The segment of coordinate `c` in row `r`. -/
abbrev segAt : Fin 8 := seg (knot negEps (shareK (wlog (net h W b) r c))) (x (ix2 r c))

/-- The segment's word. -/
theorem sg_at : sg h W b x (ix2 r c) = BitVec.ofNat 32 (segAt h W b x r c).val := by
  rw [← clip_count]
  unfold Spline.count
  simp only [← xv_at]
  rfl

/-- The width of the coordinate's segment. -/
theorem wk_at : wk h W b x (ix2 r c) = shareK (wlog (net h W b) r c) (segAt h W b x r c) := by
  have e : wk h W b x (ix2 r c) = chain (sg h W b x (ix2 r c)) (fun s => wv h W b s (ix2 r c)) zero := rfl
  rw [e, sg_at, chain_eq, wv_at]

/-- The knot the segment starts at. -/
theorem xk_at : xk h W b x (ix2 r c) = knot negEps (shareK (wlog (net h W b) r c)) (segAt h W b x r c).castSucc := by
  have e : xk h W b x (ix2 r c) = chain (sg h W b x (ix2 r c)) (fun s => xv h W b s.castSucc (ix2 r c)) zero := rfl
  rw [e, sg_at, chain_eq, xv_at]

/-! ### The heights -/

/-- The slices of height logits. -/
def hl (s : Fin 8) : T := sl (net h W b) ⟨s.val, by omega⟩

/-- A height logit, at an entry. -/
theorem hl_at (s : Fin 8) : hl h W b s (ix2 r c) = hlog (net h W b) r c s := sl_at _ _ r c

/-- The largest height logit. -/
theorem hmx_at : ofH h W b k0_pay61 (ix2 r c) = mx (hlog (net h W b) r c) := by
  unfold mx
  simp only [← hl_at]
  rfl

/-- The eight exponentials of the heights' softmax. -/
def he : Fin 8 → T := ![ofH h W b k0_pay62, ofH h W b k0_pay63, ofH h W b k0_pay64, ofH h W b k0_pay65, ofH h W b k0_pay66,
  ofH h W b k0_pay67, ofH h W b k0_pay68, ofH h W b k0_pay69]

/-- An exponential of the heights' softmax. -/
theorem he_at (s : Fin 8) : he h W b s (ix2 r c) = ex (hlog (net h W b) r c) s := by
  unfold ex
  rw [← hmx_at, ← hl_at]
  fin_cases s <;> rfl

/-- The heights' common scale. -/
theorem hsc_at : ofH h W b k0_pay70 (ix2 r c) = Ideal.div twoPi (tot (hlog (net h W b) r c)) := by
  unfold tot
  simp only [← he_at]
  rfl

/-- The eight heights. -/
def hv : Fin 8 → T := ![ofH h W b k0_pay71, ofH h W b k0_pay72, h2 h W b, h3 h W b, h4 h W b, h5 h W b, h6 h W b, h7 h W b]

/-- The heights are the kernel's shares of the height logits. -/
theorem hv_at (s : Fin 8) : hv h W b s (ix2 r c) = shareK (hlog (net h W b) r c) s := by
  unfold shareK
  rw [← hsc_at, ← he_at]
  fin_cases s <;> rfl

/-- The first eight knots of the image. -/
def pv : Fin 8 → T := ![k0_pay42 (F := Ideal), ofH h W b k0_pay71, p2 h W b, p3 h W b, p4 h W b, p5 h W b, p6 h W b, p7 h W b]

/-- A knot of the heights. -/
theorem pv_at (s : Fin 8) : pv h W b s (ix2 r c) = knot zero (shareK (hlog (net h W b) r c)) s.castSucc := by
  unfold knot
  simp only [← hv_at]
  fin_cases s <;> rfl

/-- The height of the coordinate's segment. -/
theorem hk_at : hk h W b x (ix2 r c) = shareK (hlog (net h W b) r c) (segAt h W b x r c) := by
  have e : hk h W b x (ix2 r c) = chain (sg h W b x (ix2 r c)) (fun s => hv h W b s (ix2 r c)) zero := rfl
  rw [e, sg_at, chain_eq, hv_at]

/-- The start of the segment's image. -/
theorem pk_at : pk h W b x (ix2 r c) = knot zero (shareK (hlog (net h W b) r c)) (segAt h W b x r c).castSucc := by
  have e : pk h W b x (ix2 r c) = chain (sg h W b x (ix2 r c)) (fun s => pv h W b s (ix2 r c)) zero := rfl
  rw [e, sg_at, chain_eq, pv_at]

/-! ### The derivatives at the knots -/

/-- The slices of derivative logits. -/
def dl (s : Fin 8) : T := sl (net h W b) ⟨16 + s.val, by omega⟩

/-- A slope logit, at an entry. -/
theorem dl_at (s : Fin 8) : dl h W b s (ix2 r c) = dlog (net h W b) r c s := sl_at _ _ r c

/-- The derivative logit chosen for the left end. -/
def dpre : T := select (k0_pay108 (sg h W b x)) (dl h W b 7) (select (k0_pay107 (sg h W b x)) (dl h W b 6)
  (select (k0_pay106 (sg h W b x)) (dl h W b 5) (select (m4 h W b x) (dl4 h W b) (dr h W b x))))

/-- The derivative logit chosen for the right end. -/
def dpre1 : T := select (k0_pay108 (sg h W b x)) (dl h W b 0) (select (k0_pay107 (sg h W b x)) (dl h W b 7)
  (select (k0_pay106 (sg h W b x)) (dl h W b 6) (select (m4 h W b x) (dl h W b 5) (dr1 h W b x))))

/-- The derivative at the segment's left end. -/
theorem dk_at : dk h W b x (ix2 r c) = softplusK (dlog (net h W b) r c (segAt h W b x r c)) := by
  have e : dk h W b x (ix2 r c) = softplusK (dpre h W b x (ix2 r c)) := softplus_at _ _
  have e' : dpre h W b x (ix2 r c) = chain (sg h W b x (ix2 r c)) (fun s => dl h W b s (ix2 r c)) zero := rfl
  rw [e, e', sg_at, chain_eq, dl_at]

/-- The derivative at the segment's right end. -/
theorem dk1_at : dk1 h W b x (ix2 r c) = softplusK (dlog (net h W b) r c (segAt h W b x r c + 1)) := by
  have e : dk1 h W b x (ix2 r c) = softplusK (dpre1 h W b x (ix2 r c)) := softplus_at _ _
  have e' : dpre1 h W b x (ix2 r c) = chain (sg h W b x (ix2 r c)) (fun s => dl h W b (s + 1) (ix2 r c)) zero := rfl
  rw [e, e', sg_at, chain_eq, dl_at]

/-! ### The image and the derivative -/

/-- The segment's mean slope. -/
theorem sk_at : sk h W b x (ix2 r c) = Ideal.div (shareK (hlog (net h W b) r c) (segAt h W b x r c))
    (shareK (wlog (net h W b) r c) (segAt h W b x r c)) := by
  rw [← wk_at, ← hk_at]; rfl

/-- The relative position in the segment. -/
theorem al_at : al h W b x (ix2 r c) = alpha (shareK (wlog (net h W b) r c) (segAt h W b x r c))
    (knot negEps (shareK (wlog (net h W b) r c)) (segAt h W b x r c).castSucc) (x (ix2 r c)) := by
  rw [← wk_at, ← xk_at]; rfl

/-- The denominator. -/
theorem den_at : den h W b x (ix2 r c) = denomK (sk h W b x (ix2 r c)) (al h W b x (ix2 r c)) (dk h W b x (ix2 r c))
    (dk1 h W b x (ix2 r c)) := rfl

/-- One less the position. -/
theorem om_at : om h W b x (ix2 r c) = one - al h W b x (ix2 r c) := rfl

/-- The position times one less it. -/
theorem am_at : am h W b x (ix2 r c) = al h W b x (ix2 r c) * (one - al h W b x (ix2 r c)) := rfl

/-- The image the kernel stores is the scalar image of the coordinate. -/
theorem phi_at (ph : Vec Ideal S1x1 .f32) (z : Fin 1) : phi h W b x ph (ix3 r z c)
    = phiK (wlog (net h W b) r c) (hlog (net h W b) r c) (dlog (net h W b) r c) (x (ix2 r c)) (ph (ix2 0 0)) := by
  dsimp only [phiK]
  rw [← sk_at, ← al_at, ← dk_at, ← dk1_at, ← hk_at, ← pk_at]
  unfold imageK
  rw [← den_at]
  exact pay117_at _ _ _ _ _ _ ph r z c

/-- The row sums the kernel takes off the log density are the sums of the scalar derivatives' logarithms. -/
theorem part_at (z : Fin 1) : part h W b x (ix2 r z)
    = ∑ c : Fin 256, Ideal.log (gradK (wlog (net h W b) r c) (hlog (net h W b) r c) (dlog (net h W b) r c) (x (ix2 r c))) := by
  refine (pay118_at _ _ _ _ _ _ _ r z).trans (Finset.sum_congr rfl fun c _ => ?_)
  dsimp only [gradK]
  rw [← sk_at, ← al_at, ← dk_at, ← dk1_at]
  unfold slopeK
  rw [← den_at, logs_at, om_at, am_at]

end Cert.Tile

end
-- ==== Proof.Blocks.lean ====
/- What the kernel's input windows hold at each grid point, entry by entry, in terms of the launch's arguments. -/
module

public import proofs.«01_k».proof.Proof.Gen.KernelIdeal.Value
public import Idealize.ShloMosaic.Lib.StableHlo.RunRead
public import Idealize.ShloMosaic.Lib.Pointwise

@[expose] public section

set_option maxRecDepth 16384

noncomputable section

namespace Cert.Blocks

open Idealize.ShloMosaic Idealize.ShloMosaic.TcCoe Cert.KernelIdeal Cert.KernelIdeal.Gen Idealize.SL.Sem
open Idealize.ShloMosaic.StableHlo (after)

variable (m : (ℓ : Loc nD τ sig) → Buf (Elt Ideal) ℓ) (c : Dev nD)

/-- The arguments, as the launch finds them. -/
abbrev aX : Vec Ideal S4096x4096 .f32 := m ((c : Thread nD τ).loc main_arg0)
/-- The log densities. -/
abbrev aL : Vec Ideal S4096x1 .f32 := m ((c : Thread nD τ).loc main_arg1)
/-- The first layer's weights. -/
abbrev aW1 : Vec Ideal S4096x64 .f32 := m ((c : Thread nD τ).loc main_arg2)
/-- The first layer's biases. -/
abbrev aB1 : Vec Ideal S64 .f32 := m ((c : Thread nD τ).loc main_arg3)
/-- The second layer's weights. -/
abbrev aW2 : Vec Ideal S64x49152 .f32 := m ((c : Thread nD τ).loc main_arg4)
/-- The second layer's biases. -/
abbrev aB2 : Vec Ideal S49152 .f32 := m ((c : Thread nD τ).loc main_arg5)
/-- The phase. -/
abbrev aP : Vec Ideal S1 .f32 := m ((c : Thread nD τ).loc main_arg6)

/-- The windows' block indices. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = t.val % 8)
    ∧ (win0_2.index t (0 : Fin 2) = t.val / 8 ∧ win0_2.index t (1 : Fin 2) = 8 + t.val % 8)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = t.val / 8 ∧ win0_7.index t (1 : Fin 2) = 0)
    ∧ (win0_8.index t (0 : Fin 2) = 0 ∧ win0_8.index t (1 : Fin 2) = 0)
    ∧ (grid0.coords t 1).val = t.val % 8 :=
  (by decide +kernel : ∀ t : Fin grid0.N, _)

/-- The second layer's weights as the kernel takes them: cut into eight tiles and permuted. -/
theorem V_wt : V m c main_call0_v2 = shapeCast S8x64x6144 (transpose S8x64x24x256 [1, 0, 3, 2]
    (shapeCast S64x8x256x24 (aW2 m c) shapeCasts_S64x49152_S64x8x256x24) transposes_S64x8x256x24_S8x64x24x256_1_0_3_2)
    shapeCasts_S8x64x24x256_S8x64x6144 := by
  after_reads_simp
  rfl

/-- The second layer's biases as the host lays them out for the eight tiles. -/
theorem V_bt : V m c main_call0_v5 = shapeCast S8x1x6144 (transpose S8x24x256 [0, 2, 1]
    (shapeCast S8x256x24 (aB2 m c) shapeCasts_S49152_S8x256x24) transposes_S8x256x24_S8x24x256_0_2_1)
    shapeCasts_S8x24x256_S8x1x6144 := by
  after_reads_simp
  rfl

/-- The first layer's biases as a row. -/
theorem V_b1 : V m c main_call0_v6 = shapeCast S1x64 (aB1 m c) shapeCasts_S64_S1x64 := by
  after_reads_simp
  rfl

/-- The phase as a 1 x 1 array. -/
theorem V_ph : V m c main_call0_v7 = shapeCast S1x1 (aP m c) shapeCasts_S1_S1x1 := by
  after_reads_simp
  rfl

variable (t : Fin cfg0.N)

/-- The row block of a point. -/
theorem row_lt (r : Fin 256) : 256 * (t.val / 8) + r.val < 4096 := by
  have h : t.val < 128 := lt_of_lt_of_eq t.isLt N_0
  omega

/-- The rows of the first half. -/
theorem blk0 (r : Fin 256) (q : Fin 2048) : (iblk m c 0 t : Vec Ideal S256x2048 .f32) (ix2 r q)
    = aX m c (ix2 ⟨256 * (t.val / 8) + r.val, row_lt t r⟩ ⟨q.val, by omega⟩) := by
  have f := (idx_facts t).1
  show V m c main_arg0 (((cfg0.win 0).blk t).view.emb (ix2 r q)) = _
  rw [V_main_arg0]
  refine congrArg (aX m c) (funext fun a => Fin.ext ?_)
  match a with
  | ⟨0, _⟩ => show win0_0.index t (0 : Fin 2) * 256 + 1 * r.val = 256 * (t.val / 8) + r.val; omega
  | ⟨1, _⟩ => show win0_0.index t (1 : Fin 2) * 2048 + 1 * q.val = q.val; omega

/-- The block of the coordinates left alone, at an entry. -/
theorem blk1 (r q : Fin 256) : (iblk m c 1 t : Vec Ideal S256x256 .f32) (ix2 r q)
    = aX m c (ix2 ⟨256 * (t.val / 8) + r.val, row_lt t r⟩ ⟨256 * (t.val % 8) + q.val, by omega⟩) := by
  have f := (idx_facts t).2.1
  show V m c main_arg0 (((cfg0.win 1).blk t).view.emb (ix2 r q)) = _
  rw [V_main_arg0]
  refine congrArg (aX m c) (funext fun a => Fin.ext ?_)
  match a with
  | ⟨0, _⟩ => show win0_1.index t (0 : Fin 2) * 256 + 1 * r.val = 256 * (t.val / 8) + r.val; omega
  | ⟨1, _⟩ => show win0_1.index t (1 : Fin 2) * 256 + 1 * q.val = 256 * (t.val % 8) + q.val; omega

/-- The block of the coordinates being mapped, at an entry. -/
theorem blk2 (r q : Fin 256) : (iblk m c 2 t : Vec Ideal S256x256 .f32) (ix2 r q)
    = aX m c (ix2 ⟨256 * (t.val / 8) + r.val, row_lt t r⟩ ⟨2048 + (256 * (t.val % 8) + q.val), by omega⟩) := by
  have f := (idx_facts t).2.2.1
  show V m c main_arg0 (((cfg0.win 2).blk t).view.emb (ix2 r q)) = _
  rw [V_main_arg0]
  refine congrArg (aX m c) (funext fun a => Fin.ext ?_)
  match a with
  | ⟨0, _⟩ => show win0_2.index t (0 : Fin 2) * 256 + 1 * r.val = 256 * (t.val / 8) + r.val; omega
  | ⟨1, _⟩ => show win0_2.index t (1 : Fin 2) * 256 + 1 * q.val = 2048 + (256 * (t.val % 8) + q.val); omega

/-- Every grid point sees all the first layer's weights. -/
theorem blk3 (y : S4096x64.Idx) : (iblk m c 3 t : Vec Ideal S4096x64 .f32) y = aW1 m c y := by
  have f := (idx_facts t).2.2.2.1
  show V m c main_arg2 (((cfg0.win 3).blk t).view.emb y) = _
  rw [V_main_arg2]
  refine congrArg (aW1 m c) (funext fun a => Fin.ext ?_)
  match a with
  | ⟨0, _⟩ => show win0_3.index t (0 : Fin 2) * 4096 + 1 * (y 0).val = (y 0).val; omega
  | ⟨1, _⟩ => show win0_3.index t (1 : Fin 2) * 64 + 1 * (y 1).val = (y 1).val; omega

/-- Every grid point sees all the first layer's biases. -/
theorem blk4 (z : Fin 1) (q : Fin 64) : (iblk m c 4 t : Vec Ideal S1x64 .f32) (ix2 z q) = aB1 m c (ix1 q) := by
  have f := (idx_facts t).2.2.2.2.1
  show V m c main_call0_v6 (((cfg0.win 4).blk t).view.emb (ix2 z q)) = _
  rw [V_b1]
  refine shapeCast_apply _ _ _ (ix1 q) ?_
  rw [Shape.rowMajor_val_two, Shape.rowMajor_val_one]
  show q.val = (win0_4.index t (0 : Fin 2) * 1 + 1 * z.val) * 64 + (win0_4.index t (1 : Fin 2) * 64 + 1 * q.val)
  omega

/-- Every grid point sees the phase. -/
theorem blk8 : (iblk m c 8 t : Vec Ideal S1x1 .f32) (ix2 0 0) = aP m c (ix1 0) := by
  have f := (idx_facts t).2.2.2.2.2.2.2.2.1
  show V m c main_call0_v7 (((cfg0.win 8).blk t).view.emb (ix2 0 0)) = _
  rw [V_ph]
  refine shapeCast_apply _ _ _ (ix1 0) ?_
  rw [Shape.rowMajor_val_two, Shape.rowMajor_val_one]
  show 0 = (win0_8.index t (0 : Fin 2) * 1 + 1 * 0) * 1 + (win0_8.index t (1 : Fin 2) * 1 + 1 * 0)
  omega

/-- The block of the log densities, at an entry. -/
theorem blk7 (r : Fin 256) (z : Fin 1) : (iblk m c 7 t : Vec Ideal S256x1 .f32) (ix2 r z)
    = aL m c (ix2 ⟨256 * (t.val / 8) + r.val, row_lt t r⟩ 0) := by
  have f := (idx_facts t).2.2.2.2.2.2.2.1
  show V m c main_arg1 (((cfg0.win 7).blk t).view.emb (ix2 r z)) = _
  rw [V_main_arg1]
  refine congrArg (aL m c) (funext fun a => Fin.ext ?_)
  match a with
  | ⟨0, _⟩ => show win0_7.index t (0 : Fin 2) * 256 + 1 * r.val = 256 * (t.val / 8) + r.val; omega
  | ⟨1, _⟩ => show win0_7.index t (1 : Fin 2) * 1 + 1 * z.val = 0; omega

/-- The weight of hidden unit `h` for logit `p` of coordinate `s` of tile `j`. -/
theorem blk5 (j : Fin 8) (h : Fin 64) (p : Fin 24) (s : Fin 256) :
    (iblk m c 5 t : Vec Ideal S8x64x6144 .f32) (ix3 j h ⟨p.val * 256 + s.val, by omega⟩)
      = aW2 m c (ix2 h ⟨(256 * j.val + s.val) * 24 + p.val, by omega⟩) := by
  have f := (idx_facts t).2.2.2.2.2.1
  have e : ((cfg0.win 5).blk t).view.emb (ix3 j h ⟨p.val * 256 + s.val, by omega⟩ : S8x64x6144.Idx)
      = (ix3 j h ⟨p.val * 256 + s.val, by omega⟩ : S8x64x6144.Idx) := by
    refine funext fun a => Fin.ext ?_
    match a with
    | ⟨0, _⟩ => show win0_5.index t (0 : Fin 3) * 8 + 1 * j.val = j.val; omega
    | ⟨1, _⟩ => show win0_5.index t (1 : Fin 3) * 64 + 1 * h.val = h.val; omega
    | ⟨2, _⟩ => show win0_5.index t (2 : Fin 3) * 6144 + 1 * (p.val * 256 + s.val) = p.val * 256 + s.val; omega
  refine (congrArg (V m c main_call0_v2) e).trans ?_
  rw [V_wt]
  refine (shapeCast_apply _ _ _ (ix4 j h p s) ?_).trans ?_
  · rw [Shape.rowMajor_val_three, Shape.rowMajor_val_four]
    show ((j.val * 64 + h.val) * 24 + p.val) * 256 + s.val = (j.val * 64 + h.val) * 6144 + (p.val * 256 + s.val)
    omega
  refine (transpose_apply _ _ _ _ (ix4 h j s p) fun a => ?_).trans ?_
  · fin_cases a <;> rfl
  refine shapeCast_apply _ _ _ (ix2 h ⟨(256 * j.val + s.val) * 24 + p.val, by omega⟩) ?_
  rw [Shape.rowMajor_val_two, Shape.rowMajor_val_four]
  show h.val * 49152 + ((256 * j.val + s.val) * 24 + p.val) = ((h.val * 8 + j.val) * 256 + s.val) * 24 + p.val
  omega

/-- The re-arranged biases of the second layer, at an entry. -/
theorem blk6 (j : Fin 8) (z : Fin 1) (p : Fin 24) (s : Fin 256) :
    (iblk m c 6 t : Vec Ideal S8x1x6144 .f32) (ix3 j z ⟨p.val * 256 + s.val, by omega⟩)
      = aB2 m c (ix1 ⟨(256 * j.val + s.val) * 24 + p.val, by omega⟩) := by
  have f := (idx_facts t).2.2.2.2.2.2.1
  have e : ((cfg0.win 6).blk t).view.emb (ix3 j z ⟨p.val * 256 + s.val, by omega⟩ : S8x1x6144.Idx)
      = (ix3 j z ⟨p.val * 256 + s.val, by omega⟩ : S8x1x6144.Idx) := by
    refine funext fun a => Fin.ext ?_
    match a with
    | ⟨0, _⟩ => show win0_6.index t (0 : Fin 3) * 8 + 1 * j.val = j.val; omega
    | ⟨1, _⟩ => show win0_6.index t (1 : Fin 3) * 1 + 1 * z.val = z.val; omega
    | ⟨2, _⟩ => show win0_6.index t (2 : Fin 3) * 6144 + 1 * (p.val * 256 + s.val) = p.val * 256 + s.val; omega
  refine (congrArg (V m c main_call0_v5) e).trans ?_
  rw [V_bt]
  refine (shapeCast_apply _ _ _ (ix3 j p s) ?_).trans ?_
  · rw [Shape.rowMajor_val_three, Shape.rowMajor_val_three]
    show (j.val * 24 + p.val) * 256 + s.val = (j.val * 1 + z.val) * 6144 + (p.val * 256 + s.val)
    omega
  refine (transpose_apply _ _ _ _ (ix3 j s p) fun a => ?_).trans ?_
  · fin_cases a <;> rfl
  refine shapeCast_apply _ _ _ (ix1 ⟨(256 * j.val + s.val) * 24 + p.val, by omega⟩) ?_
  rw [Shape.rowMajor_val_one, Shape.rowMajor_val_three]
  show (256 * j.val + s.val) * 24 + p.val = (j.val * 256 + s.val) * 24 + p.val
  omega

end Cert.Blocks

end
-- ==== Proof.Logits.lean ====
/- The conditioner network, entry by entry: one hidden layer of 64 units on the cosines and sines of the first half. -/
module

public import proofs.«01_k».proof.Proof.Outs
public import proofs.«01_k».proof.Proof.TileAt
public import proofs.«01_k».proof.Proof.Blocks

@[expose] public section

set_option maxRecDepth 16384

noncomputable section

namespace Cert.Logits

open Idealize.ShloMosaic Cert.KernelIdeal Cert.KernelIdeal.Gen

/-- Hidden unit `h` of row `R`. -/
def act (X : Vec Ideal S4096x4096 .f32) (W1 : Vec Ideal S4096x64 .f32) (B1 : Vec Ideal S64 .f32) (R : Fin 4096) (h : Fin 64) :
    EReal :=
  Ideal.tanh ((∑ k : Fin 2048, Ideal.cos (X (ix2 R ⟨k.val, by omega⟩)) * W1 (ix2 ⟨k.val, by omega⟩ h))
    + (∑ k : Fin 2048, Ideal.sin (X (ix2 R ⟨k.val, by omega⟩)) * W1 (ix2 ⟨2048 + k.val, by omega⟩ h)) + B1 (ix1 h))

/-- Logit `p` of coordinate `C` of row `R`. -/
def logit (X : Vec Ideal S4096x4096 .f32) (W1 : Vec Ideal S4096x64 .f32) (B1 : Vec Ideal S64 .f32)
    (W2 : Vec Ideal S64x49152 .f32) (B2 : Vec Ideal S49152 .f32) (R : Fin 4096) (C : Fin 2048) (p : Fin 24) : EReal :=
  (∑ h : Fin 64, act X W1 B1 R h * W2 (ix2 h ⟨C.val * 24 + p.val, by omega⟩)) + B2 (ix1 ⟨C.val * 24 + p.val, by omega⟩)

/-- A hidden unit of a block, from the block's rows. -/
theorem hid_at (x0 : Vec Ideal S256x2048 .f32) (x3 : Vec Ideal S4096x64 .f32) (x4 : Vec Ideal S1x64 .f32) (r : Fin 256) (h : Fin 64) :
    Outs.hid x0 x3 x4 (ix2 r h)
      = Ideal.tanh ((∑ k : Fin 2048, Ideal.cos (x0 (ix2 r k)) * x3 (ix2 ⟨k.val, by omega⟩ h))
        + (∑ k : Fin 2048, Ideal.sin (x0 (ix2 r k)) * x3 (ix2 ⟨2048 + k.val, by omega⟩ h)) + x4 (ix2 0 h)) := by
  pointwise [Outs.hid, k0_pay2, Outs.top, Outs.bot]

/-- A logit of a tile, from the tile's weights and biases. -/
theorem net_at (h : Vec Ideal S256x64 .f32) (i : grid0.Coords) (x5 : Vec Ideal S8x64x6144 .f32) (x6 : Vec Ideal S8x1x6144 .f32)
    (r : Fin 256) (q : Fin 6144) :
    Tile.net h (Outs.wtile i x5) (Outs.btile i x6) (ix2 r q)
      = (∑ k : Fin 64, h (ix2 r k) * x5 (ix3 (i 1) k q)) + x6 (ix3 (i 1) 0 q) := by
  pointwise [Tile.net, k0_pay4, Outs.wtile, Outs.btile]

/-- The width, height and slope logits of coordinate `C` of row `R`. -/
def wl (X : Vec Ideal S4096x4096 .f32) (W1 : Vec Ideal S4096x64 .f32) (B1 : Vec Ideal S64 .f32)
    (W2 : Vec Ideal S64x49152 .f32) (B2 : Vec Ideal S49152 .f32) (R : Fin 4096) (C : Fin 2048) (s : Fin 8) : EReal :=
  logit X W1 B1 W2 B2 R C ⟨8 + s.val, by omega⟩
/-- The height logits. -/
def hl (X : Vec Ideal S4096x4096 .f32) (W1 : Vec Ideal S4096x64 .f32) (B1 : Vec Ideal S64 .f32)
    (W2 : Vec Ideal S64x49152 .f32) (B2 : Vec Ideal S49152 .f32) (R : Fin 4096) (C : Fin 2048) (s : Fin 8) : EReal :=
  logit X W1 B1 W2 B2 R C ⟨s.val, by omega⟩
/-- The slope logits. -/
def dl (X : Vec Ideal S4096x4096 .f32) (W1 : Vec Ideal S4096x64 .f32) (B1 : Vec Ideal S64 .f32)
    (W2 : Vec Ideal S64x49152 .f32) (B2 : Vec Ideal S49152 .f32) (R : Fin 4096) (C : Fin 2048) (s : Fin 8) : EReal :=
  logit X W1 B1 W2 B2 R C ⟨16 + s.val, by omega⟩

/-- The coordinate being mapped. -/
def xb (X : Vec Ideal S4096x4096 .f32) (R : Fin 4096) (C : Fin 2048) : EReal := X (ix2 R ⟨2048 + C.val, by omega⟩)

end Cert.Logits

end
-- ==== Proof.Fold.lean ====
/- The kernel's two results, entry by entry, in terms of the arguments. -/
module

public import proofs.«01_k».proof.Proof.Logits

@[expose] public section

set_option maxRecDepth 16384

noncomputable section

namespace Cert.Fold

open Idealize.ShloMosaic Idealize.ShloMosaic.TcCoe Cert.KernelIdeal Cert.KernelIdeal.Gen Cert.KernelIdeal.Value Idealize.SL.Sem
open Cert.Blocks Cert.Logits Cert.Spline

variable (m : (ℓ : Loc nD τ sig) → Buf (Elt Ideal) ℓ) (c : Dev nD)

/-- What the kernel maps a coordinate to, before anything is said of the logits. -/
def phiAt (R : Fin 4096) (C : Fin 2048) : EReal :=
  phiK (wl (aX m c) (aW1 m c) (aB1 m c) (aW2 m c) (aB2 m c) R C) (hl (aX m c) (aW1 m c) (aB1 m c) (aW2 m c) (aB2 m c) R C)
    (dl (aX m c) (aW1 m c) (aB1 m c) (aW2 m c) (aB2 m c) R C) (xb (aX m c) R C) (aP m c (ix1 0))

/-- The slope of that map. -/
def gradAt (R : Fin 4096) (C : Fin 2048) : EReal :=
  gradK (wl (aX m c) (aW1 m c) (aB1 m c) (aW2 m c) (aB2 m c) R C) (hl (aX m c) (aW1 m c) (aB1 m c) (aW2 m c) (aB2 m c) R C)
    (dl (aX m c) (aW1 m c) (aB1 m c) (aW2 m c) (aB2 m c) R C) (xb (aX m c) R C)

/-- Coordinate `q` of tile `j`. -/
def cl (j : ℕ) (q : Fin 256) : Fin 2048 := ⟨(256 * j + q.val) % 2048, Nat.mod_lt _ (by decide)⟩

/-- One tile's share of a row's log slopes. -/
def share (R : Fin 4096) (j : ℕ) : EReal := ∑ q : Fin 256, Ideal.log (gradAt m c R (cl j q))

/-- Row `r` of the row block of point `n`. -/
def rw_ (n : ℕ) (r : Fin 256) : Fin 4096 := ⟨(256 * (n / 8) + r.val) % 4096, Nat.mod_lt _ (by decide)⟩

variable (t : Fin cfg0.N)

/-- A row of a point's block is a row of the array. -/
theorem rw_eq (r : Fin 256) : (⟨256 * (t.val / 8) + r.val, row_lt t r⟩ : Fin 4096) = rw_ t.val r :=
  Fin.ext (Nat.mod_eq_of_lt (row_lt t r)).symm

/-- A coordinate of a point's tile is a coordinate of the array. -/
theorem cl_eq (q : Fin 256) : (⟨256 * (t.val % 8) + q.val, by omega⟩ : Fin 2048) = cl (t.val % 8) q :=
  Fin.ext (Nat.mod_eq_of_lt (show 256 * (t.val % 8) + q.val < 2048 by omega)).symm

/-- A point that computes the hidden layer computes its rows' hidden units. -/
theorem hid_eq (r : Fin 256) (h : Fin 64) :
    Outs.hid (iblk m c 0 t) (iblk m c 3 t) (iblk m c 4 t) (ix2 r h)
      = act (aX m c) (aW1 m c) (aB1 m c) (rw_ t.val r) h := by
  rw [hid_at]
  simp only [blk0, blk3, blk4, rw_eq]
  rfl

/-- The tile's logits, when the scratch holds the row block's hidden units. -/
theorem net_eq (S : Vec Ideal S256x64 .f32)
    (hS : ∀ r h, S (ix2 r h) = act (aX m c) (aW1 m c) (aB1 m c) (rw_ t.val r) h) (r : Fin 256) (p : Fin 24) (q : Fin 256) :
    Tile.net S (Outs.wtile (grid0.coords t) (iblk m c 5 t)) (Outs.btile (grid0.coords t) (iblk m c 6 t)) (ix2 r (Tile.col p q))
      = logit (aX m c) (aW1 m c) (aB1 m c) (aW2 m c) (aB2 m c) (rw_ t.val r) (cl (t.val % 8) q) p := by
  have hi : grid0.coords t 1 = (⟨t.val % 8, by omega⟩ : Fin 8) := Fin.ext (idx_facts t).2.2.2.2.2.2.2.2.2
  rw [net_at, hi]
  simp only [hS]
  rw [← cl_eq t q]
  unfold logit
  refine congrArg₂ (· + ·) (Finset.sum_congr rfl fun k _ => congrArg (HMul.hMul _) ?_) ?_
  · exact blk5 m c t ⟨t.val % 8, by omega⟩ k p q
  · exact blk6 m c t ⟨t.val % 8, by omega⟩ 0 p q

section tile
variable (S : Vec Ideal S256x64 .f32) (hS : ∀ r h, S (ix2 r h) = act (aX m c) (aW1 m c) (aB1 m c) (rw_ t.val r) h)
include hS

/-- A point whose scratch holds its rows' hidden units leaves the first result's entries in its block. -/
theorem phi_eq' (r : Fin 256) (z : Fin 1) (q : Fin 256) :
    Tile.phi S (Outs.wtile (grid0.coords t) (iblk m c 5 t)) (Outs.btile (grid0.coords t) (iblk m c 6 t)) (iblk m c 2 t) (iblk m c 8 t) (ix3 r z q)
      = phiAt m c (rw_ t.val r) (cl (t.val % 8) q) := by
  rw [Tile.phi_at, blk8, blk2, rw_eq]
  have e : ∀ p : Fin 24, _ := fun p => net_eq m c t S hS r p q
  unfold phiAt
  congr 1
  · exact funext fun s => e _
  · exact funext fun s => e _
  · exact funext fun s => e _
  · unfold xb; rw [← cl_eq t q]

/-- The log slopes a point takes off are its tile's share. -/
theorem part_eq' (r : Fin 256) (z : Fin 1) :
    Tile.part S (Outs.wtile (grid0.coords t) (iblk m c 5 t)) (Outs.btile (grid0.coords t) (iblk m c 6 t)) (iblk m c 2 t) (ix2 r z)
      = share m c (rw_ t.val r) (t.val % 8) := by
  rw [Tile.part_at]
  refine Finset.sum_congr rfl fun q _ => congrArg Ideal.log ?_
  rw [blk2, rw_eq]
  have e : ∀ p : Fin 24, _ := fun p => net_eq m c t S hS r p q
  unfold gradAt
  congr 1
  · exact funext fun s => e _
  · exact funext fun s => e _
  · exact funext fun s => e _
  · unfold xb; rw [← cl_eq t q]

end tile

/-- What a point leaves in the first result's block. -/
def first (n : ℕ) : Vec Ideal S256x2x256 .f32 := fun y =>
  if (y 1).val = 0 then aX m c (ix2 (rw_ n (y 0)) ⟨(cl (n % 8) (y 2)).val, by have := (cl (n % 8) (y 2)).isLt; omega⟩)
  else phiAt m c (rw_ n (y 0)) (cl (n % 8) (y 2))

/-- What a point leaves in the first output is its block of the first result. -/
theorem blk_eq (S : Vec Ideal S256x64 .f32) (hS : ∀ r h, S (ix2 r h) = act (aX m c) (aW1 m c) (aB1 m c) (rw_ t.val r) h) :
    Outs.blk (iblk m c 1 t) (Tile.phi S (Outs.wtile (grid0.coords t) (iblk m c 5 t)) (Outs.btile (grid0.coords t) (iblk m c 6 t))
      (iblk m c 2 t) (iblk m c 8 t)) = first m c t.val := by
  funext y
  unfold Outs.blk first
  split
  · refine (blk1 m c t (y 0) (y 2)).trans ?_
    have e := congrArg Fin.val (cl_eq t (y 2))
    exact congrArg₂ (fun a b => aX m c (ix2 a b)) (rw_eq t (y 0)) (Fin.ext e)
  · exact phi_eq' m c t S hS (y 0) 0 (y 2)

/-- What the carried state holds after point `n`. -/
structure Holds (n : ℕ) (s : Vec Ideal S256x2x256 .f32 × Vec Ideal S256x1 .f32 × Vec Ideal S256x64 .f32) : Prop where
  out : s.1 = first m c n
  ld : ∀ r z, s.2.1 (ix2 r z) = peel (aL m c (ix2 (rw_ n r) 0)) (share m c (rw_ n r)) (n % 8 + 1)
  hid : ∀ r h, s.2.2 (ix2 r h) = act (aX m c) (aW1 m c) (aB1 m c) (rw_ n r) h

/-- The first point of a row of tiles establishes what every point keeps. -/
theorem holds_A (acc : Vec Ideal S256x2x256 .f32 × Vec Ideal S256x1 .f32 × Vec Ideal S256x64 .f32) (h0 : t.val % 8 = 0) :
    Holds m c t.val (stAt0 m c t.val t.isLt acc) := by
  rw [stAt0_A m c t acc h0 h0 (by omega)]
  rw [Outs.out_A_9, Outs.out_A_10, Outs.sout_A_0]
  refine ⟨blk_eq m c t _ (hid_eq m c t), fun r z => ?_, hid_eq m c t⟩
  show @HSub.hSub EReal EReal EReal _ (iblk m c 7 t (ix2 r z)) (Tile.part _ _ _ _ (ix2 r z)) = _
  rw [part_eq' m c t _ (hid_eq m c t), h0]
  refine congrArg (fun v : EReal => v - share m c (rw_ t.val r) 0) ((blk7 m c t r z).trans ?_)
  rw [rw_eq]
  rfl

/-- Every other point keeps it. -/
theorem holds_B (acc : Vec Ideal S256x2x256 .f32 × Vec Ideal S256x1 .f32 × Vec Ideal S256x64 .f32) (n : ℕ) (hn : t.val = n + 1)
    (h0 : ¬t.val % 8 = 0) (ha : Holds m c n acc) : Holds m c t.val (stAt0 m c t.val t.isLt acc) := by
  have er : ∀ r, rw_ n r = rw_ t.val r := fun r => by
    unfold rw_
    congr 3
    omega
  have hS : ∀ r h, acc.2.2 (ix2 r h) = act (aX m c) (aW1 m c) (aB1 m c) (rw_ t.val r) h := fun r h => by rw [ha.hid, er]
  rw [stAt0_B m c t acc h0 h0 (by omega)]
  rw [Outs.out_B_9, Outs.out_B_10]
  refine ⟨blk_eq m c t _ hS, fun r z => ?_, hS⟩
  show (acc.2.1 (ix2 r z) : EReal) - (Tile.part _ _ _ _ (ix2 r z) : EReal) = _
  rw [part_eq' m c t _ hS, ha.ld, er, show n % 8 + 1 = t.val % 8 by omega]
  rfl

/-- After every point: the first output's block, the log density less the tiles so far, and the hidden units. -/
theorem holds : ∀ (n : ℕ) (h : n < cfg0.N), Holds m c n (outsAt0 m c n h)
  | 0, h => by
    rw [outsAt0_zero]
    exact holds_A m c ⟨0, h⟩ _ rfl
  | n + 1, h => by
    rw [outsAt0_succ]
    by_cases h0 : (n + 1) % 8 = 0
    · exact holds_A m c ⟨n + 1, h⟩ _ h0
    · exact holds_B m c ⟨n + 1, h⟩ _ n rfl h0 (holds n _)

/-- The first result at row `R`, half `z`, coordinate `C`. -/
theorem G9_at (R : Fin 4096) (z : Fin 2) (C : Fin 2048) :
    G9 m c (ix3 R z C : S4096x2x2048.Idx)
      = if z.val = 0 then aX m c (ix2 R ⟨C.val, by omega⟩) else phiAt m c R C := by
  have hp : pt9Of (ix3 R z C : S4096x2x2048.Idx) = 8 * (R.val / 256) + C.val / 256 := by
    show 8 * (R.val / 256 - 0) + 8 * (z.val / 2 - 0) + 1 * (C.val / 256 - 0) = _
    omega
  have hN : cfg0.N = 128 := N_0
  have hlt : pt9Of (ix3 R z C : S4096x2x2048.Idx) < cfg0.N := by omega
  unfold G9
  rw [dif_pos hlt, ← outsAt0_sweep m c _ hlt, (holds m c _ hlt).out]
  have e1 : rw_ (pt9Of (ix3 R z C : S4096x2x2048.Idx)) ⟨R.val % 256, by omega⟩ = R := by
    rw [hp]
    exact Fin.ext (show (256 * ((8 * (R.val / 256) + C.val / 256) / 8) + R.val % 256) % 4096 = R.val by omega)
  have e2 : cl (pt9Of (ix3 R z C : S4096x2x2048.Idx) % 8) ⟨C.val % 256, by omega⟩ = C := by
    rw [hp]
    exact Fin.ext (show (256 * ((8 * (R.val / 256) + C.val / 256) % 8) + C.val % 256) % 2048 = C.val by omega)
  have e3 : z.val % 2 = z.val := by omega
  unfold first
  show (if z.val % 2 = 0 then aX m c (ix2 (rw_ (pt9Of (ix3 R z C : S4096x2x2048.Idx)) ⟨R.val % 256, _⟩)
      ⟨(cl (pt9Of (ix3 R z C : S4096x2x2048.Idx) % 8) ⟨C.val % 256, _⟩).val, _⟩)
    else phiAt m c (rw_ (pt9Of (ix3 R z C : S4096x2x2048.Idx)) ⟨R.val % 256, _⟩)
      (cl (pt9Of (ix3 R z C : S4096x2x2048.Idx) % 8) ⟨C.val % 256, _⟩)) = _
  simp only [e1, e2, e3]

/-- The second result at row `R`: the log density less the eight tiles' log slopes, one tile after another. -/
theorem G10_at (R : Fin 4096) (z : Fin 1) :
    G10 m c (ix2 R z : S4096x1.Idx) = peel (aL m c (ix2 R 0)) (share m c R) 8 := by
  have hp : pt10Of (ix2 R z : S4096x1.Idx) = 8 * (R.val / 256) + 7 := by
    show 8 * (1 * (R.val / 256 - 0) + 1 * (z.val / 1 - 0)) + 7 = _
    omega
  have hN : cfg0.N = 128 := N_0
  have hlt : pt10Of (ix2 R z : S4096x1.Idx) < cfg0.N := by omega
  unfold G10
  rw [dif_pos hlt, ← outsAt0_sweep m c _ hlt]
  have e0 : loc10Of (ix2 R z : S4096x1.Idx) = ix2 (⟨R.val % 256, by omega⟩ : Fin 256) (⟨z.val % 1, by omega⟩ : Fin 1) := by
    funext a
    match a with
    | ⟨0, _⟩ => rfl
    | ⟨1, _⟩ => rfl
  have e1 : rw_ (pt10Of (ix2 R z : S4096x1.Idx)) ⟨R.val % 256, by omega⟩ = R := by
    rw [hp]
    exact Fin.ext (show (256 * ((8 * (R.val / 256) + 7) / 8) + R.val % 256) % 4096 = R.val by omega)
  rw [e0, (holds m c _ hlt).ld, e1, show pt10Of (ix2 R z : S4096x1.Idx) % 8 + 1 = 8 by omega]

end Cert.Fold

end
-- ==== Proof.RefOps.lean ====
/- The reference's array operations read at an index: entry selection along the last axis, running sums, the segment's
   word and its successor, softplus, softmax and the wrap into one turn. -/
module

public import proofs.«01_k».proof.Proof.Gen.On_derivative_finite
public import proofs.«01_k».proof.Proof.Spline
public import Idealize.ShloMosaic.Lib.Pointwise
public import Idealize.ShloMosaic.Lib.ReduceAll

@[expose] public section

set_option maxRecDepth 16384

noncomputable section

namespace Cert.RefOps

open Idealize.ShloMosaic Cert.On_derivative_finite Cert.On_derivative_finite.Gen Cert.Spline

/-- Softplus, entry by entry. -/
theorem soft_at (x : FVec Ideal S4096x2048x8 .f32) (i : S4096x2048x8.Idx) : fn_softplus x i = softplusR (x i) := rfl

/-- Folding from the left over eight entries. -/
theorem fold8 {α : Type} (f : α → α → α) [Std.Commutative f] [Std.Associative f] (b : α) (g : Fin 8 → α) :
    (Finset.univ : Finset (Fin 8)).fold f b g
      = f (f (f (f (f (f (f (f b (g 0)) (g 1)) (g 2)) (g 3)) (g 4)) (g 5)) (g 6)) (g 7) := by
  show Multiset.fold f b ((Finset.univ : Finset (Fin 8)).val.map g) = _
  rw [Fin.univ_val_map, Multiset.coe_fold_l]
  rfl

/-- Folding from the left over nine entries. -/
theorem fold9 {α : Type} (f : α → α → α) [Std.Commutative f] [Std.Associative f] (b : α) (g : Fin 9 → α) :
    (Finset.univ : Finset (Fin 9)).fold f b g
      = f (f (f (f (f (f (f (f (f b (g 0)) (g 1)) (g 2)) (g 3)) (g 4)) (g 5)) (g 6)) (g 7)) (g 8) := by
  show Multiset.fold f b ((Finset.univ : Finset (Fin 9)).val.map g) = _
  rw [Fin.univ_val_map, Multiset.coe_fold_l]
  rfl

/-- Folding over one entry. -/
theorem fold1 {α : Type} (f : α → α → α) [Std.Commutative f] [Std.Associative f] (b : α) (g : Fin 1 → α) :
    (Finset.univ : Finset (Fin 1)).fold f b g = f b (g 0) := by
  show Multiset.fold f b ((Finset.univ : Finset (Fin 1)).val.map g) = _
  rw [Fin.univ_val_map, Multiset.coe_fold_l]
  rfl

/-- Reducing the last axis of an array of eight columns folds the eight entries. -/
theorem reduce8 {α : Type} (f : α → α → α) [Std.Commutative f] [Std.Associative f] (x : S4096x2048x8.Idx → α) (init : S_.Idx → α)
    (R : Fin 4096) (C : Fin 2048) :
    Host.reduce f x init reducesTo_S4096x2048x8_S4096x2048_d2 h_S_ (ix2 R C)
      = (Finset.univ : Finset (Fin 8)).fold f (init ix0) fun s => x (ix3 R C s) := by
  rw [Host.reduce_eq_fold_single f x init _ (show S4096x2048x8.Reduces [2] S4096x2048 by decide)]
  refine congrArg₂ (fun b g => (Finset.univ : Finset (Fin 8)).fold f b g) (congrArg init (funext fun a => a.elim0)) (funext fun s => ?_)
  refine congrArg x (funext fun a => ?_)
  fin_cases a <;> rfl

/-- A reduction of the last axis of nine is a fold over nine entries. -/
theorem reduce9 {α : Type} (f : α → α → α) [Std.Commutative f] [Std.Associative f] (x : S4096x2048x9.Idx → α) (init : S_.Idx → α)
    (R : Fin 4096) (C : Fin 2048) :
    Host.reduce f x init reducesTo_S4096x2048x9_S4096x2048_d2 h_S_ (ix2 R C)
      = (Finset.univ : Finset (Fin 9)).fold f (init ix0) fun s => x (ix3 R C s) := by
  rw [Host.reduce_eq_fold_single f x init _ (show S4096x2048x9.Reduces [2] S4096x2048 by decide)]
  refine congrArg₂ (fun b g => (Finset.univ : Finset (Fin 9)).fold f b g) (congrArg init (funext fun a => a.elim0)) (funext fun s => ?_)
  refine congrArg x (funext fun a => ?_)
  fin_cases a <;> rfl

/-- A reduction of a last axis of one is a fold over one entry. -/
theorem reduce1 {α : Type} (f : α → α → α) [Std.Commutative f] [Std.Associative f] (x : S4096x2048x1x1.Idx → α) (init : S_.Idx → α)
    (R : Fin 4096) (C : Fin 2048) (z : Fin 1) :
    Host.reduce f x init reducesTo_S4096x2048x1x1_S4096x2048x1_d3 h_S_ (ix3 R C z) = f (init ix0) (x (ix4 R C z 0)) := by
  rw [Host.reduce_eq_fold_single f x init _ (show S4096x2048x1x1.Reduces [3] S4096x2048x1 by decide)]
  refine (fold1 f _ _).trans (congrArg₂ f (congrArg init (funext fun a => a.elim0)) (congrArg x (funext fun a => ?_)))
  fin_cases a <;> rfl

/-! Words from zero to 7: none is negative, each is its own index. -/
theorem index8 : ∀ s : Fin 8, min (BitVec.ofNat 32 s.val).toInt.toNat 7 + 0 + 0 = s.val := by decide
/-- A segment's word is not negative, so it is kept. -/
theorem keep8 : ∀ s : Fin 8, Scalar.select (IntOp.cmpi .slt (BitVec.ofNat 32 s.val) 0#32) (BitVec.ofNat 32 s.val + 8#32)
    (BitVec.ofNat 32 s.val) = BitVec.ofNat 32 s.val := by decide
/-- A segment's word lies within the eight entries. -/
theorem inside8 : ∀ s : Fin 8, IntOp.andi 1#1 (IntOp.andi (IntOp.cmpi .sge (BitVec.ofNat 32 s.val) 0#32)
    (IntOp.cmpi .sle (BitVec.ofNat 32 s.val) 7#32)) = 1#1 := by decide

/-- The range test passes at such a word. -/
theorem within8 (v : IVec S4096x2048x1x1 32) (R : Fin 4096) (C : Fin 2048) (z : Fin 1) (s : Fin 8)
    (hv : v (ix4 R C z 0) = BitVec.ofNat 32 s.val) :
    IntOp.andi (constantI S_ 1 1#1 ix0) (andi (cmpi .sge v (broadcastInDim S4096x2048x1x1 ![] bcast_S_S4096x2048x1x1 (constantI S_ 32 0#32)))
      (cmpi .sle v (broadcastInDim S4096x2048x1x1 ![0, 1, 2, 3] bcast_S1x1x1x1_S4096x2048x1x1_0_1_2_3
        (broadcastInDim S1x1x1x1 ![3] bcast_S1_S1x1x1x1_3 (constantI S1 32 7#32)))) (ix4 R C z 0)) = 1#1 := by
  show IntOp.andi 1#1 (IntOp.andi (IntOp.cmpi .sge (v (ix4 R C z 0)) 0#32) (IntOp.cmpi .sle (v (ix4 R C z 0)) 7#32)) = 1#1
  rw [hv]
  exact inside8 s

/-! Words from zero to 8: none is negative, each is its own index. -/
theorem index9 : ∀ s : Fin 9, min (BitVec.ofNat 32 s.val).toInt.toNat 8 + 0 + 0 = s.val := by decide
/-- A knot's word is not negative, so it is kept. -/
theorem keep9 : ∀ s : Fin 9, Scalar.select (IntOp.cmpi .slt (BitVec.ofNat 32 s.val) 0#32) (BitVec.ofNat 32 s.val + 9#32)
    (BitVec.ofNat 32 s.val) = BitVec.ofNat 32 s.val := by decide
/-- A knot's word lies within the nine entries. -/
theorem inside9 : ∀ s : Fin 9, IntOp.andi 1#1 (IntOp.andi (IntOp.cmpi .sge (BitVec.ofNat 32 s.val) 0#32)
    (IntOp.cmpi .sle (BitVec.ofNat 32 s.val) 8#32)) = 1#1 := by decide

/-- The range test passes at such a word. -/
theorem within9 (v : IVec S4096x2048x1x1 32) (R : Fin 4096) (C : Fin 2048) (z : Fin 1) (s : Fin 9)
    (hv : v (ix4 R C z 0) = BitVec.ofNat 32 s.val) :
    IntOp.andi (constantI S_ 1 1#1 ix0) (andi (cmpi .sge v (broadcastInDim S4096x2048x1x1 ![] bcast_S_S4096x2048x1x1 (constantI S_ 32 0#32)))
      (cmpi .sle v (broadcastInDim S4096x2048x1x1 ![0, 1, 2, 3] bcast_S1x1x1x1_S4096x2048x1x1_0_1_2_3
        (broadcastInDim S1x1x1x1 ![3] bcast_S1_S1x1x1x1_3 (constantI S1 32 8#32)))) (ix4 R C z 0)) = 1#1 := by
  show IntOp.andi 1#1 (IntOp.andi (IntOp.cmpi .sge (v (ix4 R C z 0)) 0#32) (IntOp.cmpi .sle (v (ix4 R C z 0)) 8#32)) = 1#1
  rw [hv]
  exact inside9 s

/-- A gather of one entry per row along the last axis, of 8 columns. -/
theorem gather8 (x : FVec Ideal S4096x2048x8 .f32) (k : IVec S4096x2048x1x1 32) (R : Fin 4096) (C : Fin 2048) (z : Fin 1) (s : Fin 8)
    (hk : k (ix4 R C z 0) = BitVec.ofNat 32 s.val) :
    Host.gather gather_S4096x2048x8_S4096x2048x1x1_S4096x2048x1_n_2_01_01_2_3_111 x k (ix3 R C z) = x (ix3 R C s) := by
  unfold Host.gather
  refine congrArg x (funext fun a => Fin.ext ?_)
  show GatherDims.start _ (ix3 R C z) k a + GatherDims.batchCoord _ (ix3 R C z) a + GatherDims.offCoord _ (ix3 R C z) a = _
  match a with
  | ⟨0, h⟩ =>
    rw [GatherDims.start_batching _ _ _ _ (show (⟨0, h⟩ : Fin 3) ∈ [(0 : Fin 3), 1] from List.mem_cons_self),
      GatherDims.offCoord_eq_zero _ _ _ (fun hm => ((GatherDims.mem_sKept _ _).1 hm).2 (show (⟨0, h⟩ : Fin 3) ∈ [(0 : Fin 3), 1] from List.mem_cons_self))]
    unfold GatherDims.batchCoord
    rw [Nat.zero_add, Nat.add_zero, dif_pos]
    · rfl
    · exact (show (⟨0, h⟩ : Fin 3) ∈ [(0 : Fin 3), 1] from List.mem_cons_self)
  | ⟨1, h⟩ =>
    rw [GatherDims.start_batching _ _ _ _ (show (⟨1, h⟩ : Fin 3) ∈ [(0 : Fin 3), 1] from List.mem_cons_of_mem _ List.mem_cons_self),
      GatherDims.offCoord_eq_zero _ _ _ (fun hm => ((GatherDims.mem_sKept _ _).1 hm).2 (show (⟨1, h⟩ : Fin 3) ∈ [(0 : Fin 3), 1] from List.mem_cons_of_mem _ List.mem_cons_self))]
    unfold GatherDims.batchCoord
    rw [Nat.zero_add, Nat.add_zero, dif_pos]
    · rfl
    · exact (show (⟨1, h⟩ : Fin 3) ∈ [(0 : Fin 3), 1] from List.mem_cons_of_mem _ List.mem_cons_self)
  | ⟨2, h⟩ =>
    have e : gather_S4096x2048x8_S4096x2048x1x1_S4096x2048x1_n_2_01_01_2_3_111.siIdx (ix3 R C z) ⟨0, by decide⟩ = ix4 R C z 0 := by
      funext b
      fin_cases b <;> rfl
    show min (k (gather_S4096x2048x8_S4096x2048x1x1_S4096x2048x1_n_2_01_01_2_3_111.siIdx (ix3 R C z) ⟨0, _⟩)).toInt.toNat 7 + 0 + 0 = s.val
    rw [e, hk]
    exact index8 s

/-- A gather of one entry per row along the last axis, of 9 columns. -/
theorem gather9 (x : FVec Ideal S4096x2048x9 .f32) (k : IVec S4096x2048x1x1 32) (R : Fin 4096) (C : Fin 2048) (z : Fin 1) (s : Fin 9)
    (hk : k (ix4 R C z 0) = BitVec.ofNat 32 s.val) :
    Host.gather gather_S4096x2048x9_S4096x2048x1x1_S4096x2048x1_n_2_01_01_2_3_111 x k (ix3 R C z) = x (ix3 R C s) := by
  unfold Host.gather
  refine congrArg x (funext fun a => Fin.ext ?_)
  show GatherDims.start _ (ix3 R C z) k a + GatherDims.batchCoord _ (ix3 R C z) a + GatherDims.offCoord _ (ix3 R C z) a = _
  match a with
  | ⟨0, h⟩ =>
    rw [GatherDims.start_batching _ _ _ _ (show (⟨0, h⟩ : Fin 3) ∈ [(0 : Fin 3), 1] from List.mem_cons_self),
      GatherDims.offCoord_eq_zero _ _ _ (fun hm => ((GatherDims.mem_sKept _ _).1 hm).2 (show (⟨0, h⟩ : Fin 3) ∈ [(0 : Fin 3), 1] from List.mem_cons_self))]
    unfold GatherDims.batchCoord
    rw [Nat.zero_add, Nat.add_zero, dif_pos]
    · rfl
    · exact (show (⟨0, h⟩ : Fin 3) ∈ [(0 : Fin 3), 1] from List.mem_cons_self)
  | ⟨1, h⟩ =>
    rw [GatherDims.start_batching _ _ _ _ (show (⟨1, h⟩ : Fin 3) ∈ [(0 : Fin 3), 1] from List.mem_cons_of_mem _ List.mem_cons_self),
      GatherDims.offCoord_eq_zero _ _ _ (fun hm => ((GatherDims.mem_sKept _ _).1 hm).2 (show (⟨1, h⟩ : Fin 3) ∈ [(0 : Fin 3), 1] from List.mem_cons_of_mem _ List.mem_cons_self))]
    unfold GatherDims.batchCoord
    rw [Nat.zero_add, Nat.add_zero, dif_pos]
    · rfl
    · exact (show (⟨1, h⟩ : Fin 3) ∈ [(0 : Fin 3), 1] from List.mem_cons_of_mem _ List.mem_cons_self)
  | ⟨2, h⟩ =>
    have e : gather_S4096x2048x9_S4096x2048x1x1_S4096x2048x1_n_2_01_01_2_3_111.siIdx (ix3 R C z) ⟨0, by decide⟩ = ix4 R C z 0 := by
      funext b
      fin_cases b <;> rfl
    show min (k (gather_S4096x2048x9_S4096x2048x1x1_S4096x2048x1_n_2_01_01_2_3_111.siIdx (ix3 R C z) ⟨0, _⟩)).toInt.toNat 8 + 0 + 0 = s.val
    rw [e, hk]
    exact index9 s

/-- A selection whose bit is one takes the first operand. -/
theorem select_one {s : Shape} (b : IVec s 1) (u v : FVec Ideal s .f32) (i : s.Idx) (h : b i = 1#1) : select b u v i = u i := by
  show Scalar.select (b i) (u i) (v i) = u i
  rw [h]
  rfl

/-- Selecting along the last of 8 columns by a word in range. -/
theorem take8 (x : FVec Ideal S4096x2048x8 .f32) (k : IVec S4096x2048x1 32) (R : Fin 4096) (C : Fin 2048) (z : Fin 1) (s : Fin 8)
    (hk : k (ix3 R C z) = BitVec.ofNat 32 s.val) : fn_take_along_axis x k (ix3 R C z) = x (ix3 R C s) := by
  have h5 : shapeCast S4096x2048x1x1 (select (cmpi .slt k (broadcastInDim S4096x2048x1 ![] bcast_S_S4096x2048x1 (constantI S_ 32 0#32)))
      (addi k (broadcastInDim S4096x2048x1 ![] bcast_S_S4096x2048x1 (constantI S_ 32 8#32))) k) shapeCasts_S4096x2048x1_S4096x2048x1x1
      (ix4 R C z 0) = BitVec.ofNat 32 s.val := by
    refine (shapeCast_apply _ _ _ (ix3 R C z) ?_).trans ?_
    · rw [Shape.rowMajor_val_three, Shape.rowMajor_val_four]
      show (R.val * 2048 + C.val) * 1 + z.val = ((R.val * 2048 + C.val) * 1 + z.val) * 1 + 0
      omega
    show Scalar.select (IntOp.cmpi .slt (k (ix3 R C z)) 0#32) (k (ix3 R C z) + 8#32) (k (ix3 R C z)) = _
    rw [hk]
    exact keep8 s
  unfold fn_take_along_axis
  dsimp only
  rw [select_one _ _ _ _ ((reduce1 IntOp.andi _ _ R C z).trans (within8 _ R C z s h5))]
  exact gather8 x _ R C z s h5

/-- Selecting along the last of 9 columns by a word in range. -/
theorem take9 (x : FVec Ideal S4096x2048x9 .f32) (k : IVec S4096x2048x1 32) (R : Fin 4096) (C : Fin 2048) (z : Fin 1) (s : Fin 9)
    (hk : k (ix3 R C z) = BitVec.ofNat 32 s.val) : fn_take_along_axis_1 x k (ix3 R C z) = x (ix3 R C s) := by
  have h5 : shapeCast S4096x2048x1x1 (select (cmpi .slt k (broadcastInDim S4096x2048x1 ![] bcast_S_S4096x2048x1 (constantI S_ 32 0#32)))
      (addi k (broadcastInDim S4096x2048x1 ![] bcast_S_S4096x2048x1 (constantI S_ 32 9#32))) k) shapeCasts_S4096x2048x1_S4096x2048x1x1
      (ix4 R C z 0) = BitVec.ofNat 32 s.val := by
    refine (shapeCast_apply _ _ _ (ix3 R C z) ?_).trans ?_
    · rw [Shape.rowMajor_val_three, Shape.rowMajor_val_four]
      show (R.val * 2048 + C.val) * 1 + z.val = ((R.val * 2048 + C.val) * 1 + z.val) * 1 + 0
      omega
    show Scalar.select (IntOp.cmpi .slt (k (ix3 R C z)) 0#32) (k (ix3 R C z) + 9#32) (k (ix3 R C z)) = _
    rw [hk]
    exact keep9 s
  unfold fn_take_along_axis_1
  dsimp only
  rw [select_one _ _ _ _ ((reduce1 IntOp.andi _ _ R C z).trans (within9 _ R C z s h5))]
  exact gather9 x _ R C z s h5

/-- What place `n` of a window of eight, ending at column `s`, contributes: the column it lies on, or nothing before the first. -/
def tap (f : Fin 8 → EReal) (s n : Fin 8) : EReal := if hn : 7 ≤ s.val + n.val then f ⟨s.val + n.val - 7, by omega⟩ else 0

/-- The eight contributions sum to the running sum. -/
theorem tap_sum (f : Fin 8 → EReal) (s : Fin 8) (z : EReal) :
    0 + tap f s 0 + tap f s 1 + tap f s 2 + tap f s 3 + tap f s 4 + tap f s 5 + tap f s 6 + tap f s 7 = knot z f s.succ := by
  fin_cases s <;> simp [tap, knot]

/-- A running sum of eight columns over any number of rows and coordinates, at column `s`. -/
theorem window8 (A B : ℕ) (x : (⟨3, ![A, B, 8]⟩ : Shape).Idx → EReal) (v : S_.Idx → EReal) (hv : ∀ i, v i = 0)
    (h : (⟨3, ![A, B, 8]⟩ : Shape).ReduceWindows ![1, 1, 8] ![1, 1, 1] ![0, 0, 7] ![0, 0, 0] ⟨3, ![A, B, 8]⟩)
    (R : Fin A) (C : Fin B) (s : Fin 8) (z : EReal) :
    Host.reduceWindow (fun a b : EReal => a + b) ![1, 1, 8] ![1, 1, 1] ![0, 0, 7] ![0, 0, 0] x v h h_S_ (ix3 R C s)
      = knot z (fun t => x (ix3 R C t)) s.succ := by
  unfold Host.reduceWindow
  simp only [hv]
  have hw : ∀ n : Fin 8, (((⟨3, ![1, 1, 8]⟩ : Shape).rowMajor.symm n) 0).val = 0
      ∧ (((⟨3, ![1, 1, 8]⟩ : Shape).rowMajor.symm n) 1).val = 0 ∧ (((⟨3, ![1, 1, 8]⟩ : Shape).rowMajor.symm n) 2).val = n.val := by
    decide
  refine Eq.trans (b := (List.finRange 8).foldl (fun r n => r + tap (fun t => x (ix3 R C t)) s n) 0) ?_ (tap_sum _ s z)
  refine congrArg (fun φ : EReal → Fin 8 → EReal => List.foldl φ 0 (List.finRange 8)) (funext fun r => funext fun n => congrArg (r + ·) ?_)
  obtain ⟨w0, w1, w2⟩ := hw n
  unfold tap
  split
  · next hin =>
    have h2 := hin 2
    change 7 ≤ s.val * 1 + (((⟨3, ![1, 1, 8]⟩ : Shape).rowMajor.symm n) 2).val ∧ _ at h2
    rw [w2] at h2
    rw [dif_pos (by omega)]
    refine congrArg x (funext fun a => Fin.ext ?_)
    match a with
    | ⟨0, _⟩ =>
      show R.val * 1 + (((⟨3, ![1, 1, 8]⟩ : Shape).rowMajor.symm n) 0).val - 0 = R.val
      omega
    | ⟨1, _⟩ =>
      show C.val * 1 + (((⟨3, ![1, 1, 8]⟩ : Shape).rowMajor.symm n) 1).val - 0 = C.val
      omega
    | ⟨2, _⟩ =>
      show s.val * 1 + (((⟨3, ![1, 1, 8]⟩ : Shape).rowMajor.symm n) 2).val - 7 = s.val + n.val - 7
      omega
  · next hin =>
    rw [dif_neg fun hle => hin fun a => by
      match a with
      | ⟨0, _⟩ =>
        show 0 ≤ R.val * 1 + (((⟨3, ![1, 1, 8]⟩ : Shape).rowMajor.symm n) 0).val
          ∧ R.val * 1 + (((⟨3, ![1, 1, 8]⟩ : Shape).rowMajor.symm n) 0).val - 0 < A
        omega
      | ⟨1, _⟩ =>
        show 0 ≤ C.val * 1 + (((⟨3, ![1, 1, 8]⟩ : Shape).rowMajor.symm n) 1).val
          ∧ C.val * 1 + (((⟨3, ![1, 1, 8]⟩ : Shape).rowMajor.symm n) 1).val - 0 < B
        omega
      | ⟨2, _⟩ =>
        show 7 ≤ s.val * 1 + (((⟨3, ![1, 1, 8]⟩ : Shape).rowMajor.symm n) 2).val
          ∧ s.val * 1 + (((⟨3, ![1, 1, 8]⟩ : Shape).rowMajor.symm n) 2).val - 7 < 8
        omega]

/-- The running sum of the reference, at column `s`. -/
theorem cumsum_at (x : FVec Ideal S4096x2048x8 .f32) (R : Fin 4096) (C : Fin 2048) (s : Fin 8) (z : EReal) :
    fn_cumsum_0 x (ix3 R C s) = knot z (fun t => x (ix3 R C t)) s.succ :=
  window8 4096 2048 x _ (fun _ => Ideal.ofBits_zero_f32) reduceWindows_S4096x2048x8_S4096x2048x8_w1s1p0_0_w1s1p0_0_w8s1p7_0 R C s z

end Cert.RefOps

end
-- ==== Proof.RefAt.lean ====
/- The reference's intermediate arrays, entry by entry, in terms of the arguments. -/
module

public import proofs.«01_k».proof.Proof.Gen.ReferenceIdeal.Run
public import proofs.«01_k».proof.Proof.RefOps
public import proofs.«01_k».proof.Proof.Logits

@[expose] public section

set_option maxRecDepth 16384

noncomputable section

namespace Cert.RefAt

open Idealize.ShloMosaic Idealize.ShloMosaic.StableHlo Cert.ReferenceIdeal Cert.ReferenceIdeal.Gen Cert.ReferenceIdeal.Value
open Cert.Spline Cert.Logits Cert.RefOps

variable (V0 : Valuation τ sig (Elt Ideal))

/-- The arguments as the reference finds them. -/
abbrev rX : Vec Ideal S4096x4096 .f32 := V0 (Proc.devRef .tc main_arg0)
/-- The first layer's weights. -/
abbrev rW1 : Vec Ideal S4096x64 .f32 := V0 (Proc.devRef .tc main_arg2)
/-- The first layer's biases. -/
abbrev rB1 : Vec Ideal S64 .f32 := V0 (Proc.devRef .tc main_arg3)
/-- The second layer's weights. -/
abbrev rW2 : Vec Ideal S64x49152 .f32 := V0 (Proc.devRef .tc main_arg4)
/-- The second layer's biases. -/
abbrev rB2 : Vec Ideal S49152 .f32 := V0 (Proc.devRef .tc main_arg5)
/-- The phase. -/
abbrev rP : Vec Ideal S1 .f32 := V0 (Proc.devRef .tc main_arg6)

variable (R : Fin 4096) (C : Fin 2048)

/-- The coordinate being mapped. -/
theorem v1_at : res_main_v1 V0 (ix2 R C) = xb (rX V0) R C := by
  pointwise [res_main_v1, xb]

/-- The hidden layer before its bias: one contraction over the cosines and sines side by side is the sum of two. -/
theorem mix_at (h : Fin 64) : Host.dotGeneral (φ₁ := .f32) (φ₂ := .f32) dot_S4096x4096_S4096x64_S4096x64_1_0_0_1_n_n none (concatenate S4096x4096 1
      [⟨S4096x2048, (Host.cos (res_main_v0 V0))⟩, ⟨S4096x2048, (Host.sin (res_main_v0 V0))⟩] concatenates_S4096x2048_S4096x2048_S4096x4096_d1)
      (rW1 V0) (ix2 R h)
    = (∑ k : Fin 2048, Ideal.cos (rX V0 (ix2 R ⟨k.val, by omega⟩)) * rW1 V0 (ix2 ⟨k.val, by omega⟩ h))
      + (∑ k : Fin 2048, Ideal.sin (rX V0 (ix2 R ⟨k.val, by omega⟩)) * rW1 V0 (ix2 ⟨2048 + k.val, by omega⟩ h)) := by
  pointwise [res_main_v0]

/-- A hidden unit. -/
theorem act_at (h : Fin 64) : Host.tanh (addf (Host.dotGeneral (φ₁ := .f32) (φ₂ := .f32) dot_S4096x4096_S4096x64_S4096x64_1_0_0_1_n_n none (concatenate S4096x4096 1
      [⟨S4096x2048, (Host.cos (res_main_v0 V0))⟩, ⟨S4096x2048, (Host.sin (res_main_v0 V0))⟩] concatenates_S4096x2048_S4096x2048_S4096x4096_d1)
      (rW1 V0)) (broadcastInDim S4096x64 ![0, 1] bcast_S1x64_S4096x64_0_1 (broadcastInDim S1x64 ![1] bcast_S64_S1x64_1 (rB1 V0)))) (ix2 R h)
    = act (rX V0) (rW1 V0) (rB1 V0) R h := by
  refine congrArg Ideal.tanh (congrArg₂ (fun a b : EReal => a + b) (mix_at V0 R h) ?_)
  pointwise

/-- A layer of 64 inputs with its bias. -/
theorem layer_at (A : FVec Ideal S4096x64 .f32) (W : FVec Ideal S64x49152 .f32) (B : FVec Ideal S49152 .f32) (p : Fin 24) :
    shapeCast S4096x2048x24 (addf (Host.dotGeneral dot_S4096x64_S64x49152_S4096x49152_1_0_0_1_n_n none A W)
      (broadcastInDim S4096x49152 ![0, 1] bcast_S1x49152_S4096x49152_0_1 (broadcastInDim S1x49152 ![1] bcast_S49152_S1x49152_1 B)))
      shapeCasts_S4096x49152_S4096x2048x24 (ix3 R C p)
    = (∑ h : Fin 64, A (ix2 R h) * W (ix2 h ⟨C.val * 24 + p.val, by omega⟩)) + B (ix1 ⟨C.val * 24 + p.val, by omega⟩) := by
  refine (shapeCast_apply _ _ _ (ix2 R ⟨C.val * 24 + p.val, by omega⟩) ?_).trans ?_
  · rw [Shape.rowMajor_val_three, Shape.rowMajor_val_two]
    show R.val * 49152 + (C.val * 24 + p.val) = (R.val * 2048 + C.val) * 24 + p.val
    omega
  pointwise

/-- A logit. -/
theorem v14_at (p : Fin 24) : res_main_v14 V0 (ix3 R C p) = logit (rX V0) (rW1 V0) (rB1 V0) (rW2 V0) (rB2 V0) R C p := by
  unfold res_main_v14
  refine (layer_at R C _ _ _ p).trans ?_
  unfold logit
  exact congrArg (fun v : EReal => v + rB2 V0 (ix1 ⟨C.val * 24 + p.val, by omega⟩)) (Finset.sum_congr rfl fun k _ =>
    congrArg (fun v : EReal => v * rW2 V0 (ix2 k ⟨C.val * 24 + p.val, by omega⟩)) (act_at V0 R k))

/-- The arguments' logits. -/
abbrev rwl : Fin 8 → EReal := wl (rX V0) (rW1 V0) (rB1 V0) (rW2 V0) (rB2 V0) R C
/-- The height logits. -/
abbrev rhl : Fin 8 → EReal := hl (rX V0) (rW1 V0) (rB1 V0) (rW2 V0) (rB2 V0) R C
/-- The slope logits. -/
abbrev rdl : Fin 8 → EReal := dl (rX V0) (rW1 V0) (rB1 V0) (rW2 V0) (rB2 V0) R C

/-- The height logits are the first eight. -/
theorem v15_at (s : Fin 8) : res_main_v15 V0 (ix3 R C s) = rhl V0 R C s := by
  refine Eq.trans ?_ (v14_at V0 R C ⟨s.val, by omega⟩)
  pointwise [res_main_v15]

/-- The width logits are the next eight. -/
theorem v16_at (s : Fin 8) : res_main_v16 V0 (ix3 R C s) = rwl V0 R C s := by
  refine Eq.trans ?_ (v14_at V0 R C ⟨8 + s.val, by omega⟩)
  pointwise [res_main_v16]

/-- The slope logits are the last eight. -/
theorem v17_at (s : Fin 8) : res_main_v17 V0 (ix3 R C s) = rdl V0 R C s := by
  refine Eq.trans ?_ (v14_at V0 R C ⟨16 + s.val, by omega⟩)
  pointwise [res_main_v17]

/-- The largest of a row's eight logits. -/
theorem max_at (x : FVec Ideal S4096x2048x8 .f32) (l : Fin 8 → EReal) (hx : ∀ s, x (ix3 R C s) = l s) :
    maximumf (broadcastInDim S4096x2048 ![] bcast_S_S4096x2048 (constant S_ .f32 0xFF800000#32))
      (Host.reduce FloatOps.maximumf x (constant S_ .f32 0xFF800000#32) reducesTo_S4096x2048x8_S4096x2048_d2 h_S_) (ix2 R C) = mx l := by
  have hb : Ideal.ofBits .f32 0xFF800000#32 = ⊥ := by simp [Ideal.ofBits, Ideal.ieee]
  have e : Host.reduce FloatOps.maximumf x (constant (F := Ideal) S_ .f32 0xFF800000#32) reducesTo_S4096x2048x8_S4096x2048_d2 h_S_ (ix2 R C) = mx l := by
    haveI : Std.Commutative (FloatOps.maximumf : Ideal .f32 → Ideal .f32 → Ideal .f32) := ⟨fun a b => max_comm (α := EReal) a b⟩
    haveI : Std.Associative (FloatOps.maximumf : Ideal .f32 → Ideal .f32 → Ideal .f32) := ⟨fun a b c => max_assoc (α := EReal) a b c⟩
    refine (reduce8 (FloatOps.maximumf : Ideal .f32 → Ideal .f32 → Ideal .f32) x _ R C).trans ((fold8 _ _ _).trans ?_)
    simp only [hx]
    show max (max (max (max (max (max (max (max (Ideal.ofBits .f32 0xFF800000#32) (l 0)) (l 1)) (l 2)) (l 3)) (l 4)) (l 5)) (l 6)) (l 7) = mx l
    rw [hb, max_bot_left]
    rfl
  have step : ∀ a b : FVec Ideal S4096x2048 .f32, maximumf a b (ix2 R C) = (max (a (ix2 R C) : EReal) (b (ix2 R C)) : EReal) := fun _ _ => rfl
  rw [step, e]
  show max (Ideal.ofBits .f32 0xFF800000#32) (mx l) = mx l
  rw [hb, max_bot_left]

/-- The exponential of a logit less the row's largest. -/
theorem ex_at (x : FVec Ideal S4096x2048x8 .f32) (l : Fin 8 → EReal) (hx : ∀ s, x (ix3 R C s) = l s) (s : Fin 8) :
    Host.exp (subf x (broadcastInDim S4096x2048x8 ![0, 1, 2] bcast_S4096x2048x1_S4096x2048x8_0_1_2 (broadcastInDim S4096x2048x1 ![0, 1]
      bcast_S4096x2048_S4096x2048x1_0_1 (maximumf (broadcastInDim S4096x2048 ![] bcast_S_S4096x2048 (constant S_ .f32 0xFF800000#32))
      (Host.reduce FloatOps.maximumf x (constant S_ .f32 0xFF800000#32) reducesTo_S4096x2048x8_S4096x2048_d2 h_S_))))) (ix3 R C s)
    = ex l s := by
  rw [ex, ← hx s, ← max_at R C x l hx]
  generalize (maximumf (broadcastInDim S4096x2048 ![] bcast_S_S4096x2048 (constant S_ .f32 0xFF800000#32))
      (Host.reduce FloatOps.maximumf x (constant S_ .f32 0xFF800000#32) reducesTo_S4096x2048x8_S4096x2048_d2 h_S_)) = M
  pointwise

/-- The softmax times two times π. -/
theorem share_at (e : FVec Ideal S4096x2048x8 .f32) (l : Fin 8 → EReal) (he : ∀ s, e (ix3 R C s) = ex l s) (s : Fin 8) :
    mulf (mulf (Host.divf e (broadcastInDim S4096x2048x8 ![0, 1, 2] bcast_S4096x2048x1_S4096x2048x8_0_1_2 (broadcastInDim S4096x2048x1 ![0, 1]
      bcast_S4096x2048_S4096x2048x1_0_1 (Host.reduceAdd e (constant S_ .f32 0x00000000#32) reducesTo_S4096x2048x8_S4096x2048_d2 h_S_))))
      (broadcastInDim S4096x2048x8 ![] bcast_S_S4096x2048x8 (constant S_ .f32 0x40000000#32)))
      (broadcastInDim S4096x2048x8 ![] bcast_S_S4096x2048x8 (constant S_ .f32 0x40490FDB#32)) (ix3 R C s)
    = shareR l s := by
  have ht : tot l = ∑ k : Fin 8, e (ix3 R C k) := by
    rw [Fin.sum_univ_eight]
    simp only [he]
    rfl
  rw [shareR, ← he s, ht]
  pointwise

/-- The heights. -/
theorem v32_at (s : Fin 8) : res_main_v32 V0 (ix3 R C s) = shareR (rhl V0 R C) s :=
  share_at R C _ _ (fun s => ex_at R C _ _ (v15_at V0 R C) s) s

/-- The widths. -/
theorem v47_at (s : Fin 8) : res_main_v47 V0 (ix3 R C s) = shareR (rwl V0 R C) s :=
  share_at R C _ _ (fun s => ex_at R C _ _ (v16_at V0 R C) s) s

/-- The derivatives at the knots. -/
theorem v48_at (s : Fin 8) : res_main_v48 V0 (ix3 R C s) = softplusR (rdl V0 R C s) := by
  rw [← v17_at]
  rfl

/-- Nine knots: a constant, then the running sums. -/
theorem knot_at (z : BitVec 32) (y : FVec Ideal S4096x2048x8 .f32) (w : Fin 8 → EReal) (hy : ∀ s, y (ix3 R C s) = w s) (q : Fin 9) :
    concatenate S4096x2048x9 2 [⟨S4096x2048x1, (broadcastInDim S4096x2048x1 ![] bcast_S_S4096x2048x1 (constant S_ .f32 z) : FVec Ideal S4096x2048x1 .f32)⟩,
      ⟨S4096x2048x8, (Host.reduceWindowAdd ![1, 1, 8] ![1, 1, 1] ![0, 0, 7] ![0, 0, 0] y (broadcastInDim S_ ![] bcast_S_S_ (constant S_ .f32 0x00000000#32))
        reduceWindows_S4096x2048x8_S4096x2048x8_w1s1p0_0_w1s1p0_0_w8s1p7_0 h_S_)⟩] concatenates_S4096x2048x1_S4096x2048x8_S4096x2048x9_d2 (ix3 R C q)
    = knot (Ideal.ofBits .f32 z) w q := by
  have hc : ∀ s : Fin 8, Host.reduceWindowAdd ![1, 1, 8] ![1, 1, 1] ![0, 0, 7] ![0, 0, 0] y (broadcastInDim S_ ![] bcast_S_S_ (constant S_ .f32 0x00000000#32))
        reduceWindows_S4096x2048x8_S4096x2048x8_w1s1p0_0_w1s1p0_0_w8s1p7_0 h_S_ (ix3 R C s) = knot (Ideal.ofBits .f32 z) w s.succ := fun s => by
    rw [show w = fun t => y (ix3 R C t) from funext fun t => (hy t).symm]
    exact cumsum_at y R C s _
  generalize (Host.reduceWindowAdd ![1, 1, 8] ![1, 1, 1] ![0, 0, 7] ![0, 0, 0] y (broadcastInDim S_ ![] bcast_S_S_ (constant S_ .f32 0x00000000#32))
        reduceWindows_S4096x2048x8_S4096x2048x8_w1s1p0_0_w1s1p0_0_w8s1p7_0 h_S_) = Y at hc ⊢
  refine Fin.cases ?_ (fun s => ?_) q
  · pointwise [knot]
  · rw [← hc s]
    pointwise
    rw [dif_neg (by simp)]
    rfl

/-- The knots of the widths. -/
theorem v51_at (q : Fin 9) : res_main_v51 V0 (ix3 R C q) = knot negEps (shareR (rwl V0 R C)) q :=
  knot_at R C _ _ _ (v47_at V0 R C) q

/-- The segment the coordinate lies in. -/
abbrev rs : Fin 8 := seg (knot negEps (shareR (rwl V0 R C))) (xb (rX V0) R C)

/-- The segment's word. -/
theorem v63_at (z : Fin 1) : res_main_v63 V0 (ix3 R C z) = BitVec.ofNat 32 (rs V0 R C).val := by
  rw [← clip_count]
  have e : Host.reduce IntOp.addi (extui 32 (cmpf .olt (res_main_v51 V0) (broadcastInDim S4096x2048x9 ![0, 1, 2] bcast_S4096x2048x1_S4096x2048x9_0_1_2
      (broadcastInDim S4096x2048x1 ![0, 1] bcast_S4096x2048_S4096x2048x1_0_1 (res_main_v1 V0)))) natLt_1_32) (constantI S_ 32 0#32)
      reducesTo_S4096x2048x9_S4096x2048_d2 h_S_ (ix2 R C) = Spline.count (knot negEps (shareR (rwl V0 R C))) (xb (rX V0) R C) := by
    refine (reduce9 IntOp.addi _ _ R C).trans ((fold9 _ _ _).trans ?_)
    have hb : ∀ q : Fin 9, extui 32 (cmpf .olt (res_main_v51 V0) (broadcastInDim S4096x2048x9 ![0, 1, 2] bcast_S4096x2048x1_S4096x2048x9_0_1_2
      (broadcastInDim S4096x2048x1 ![0, 1] bcast_S4096x2048_S4096x2048x1_0_1 (res_main_v1 V0)))) natLt_1_32 (ix3 R C q)
      = below (knot negEps (shareR (rwl V0 R C)) q) (xb (rX V0) R C) := fun q => by
      rw [← v51_at V0 R C q, ← v1_at V0 R C]
      generalize res_main_v51 V0 = k
      generalize res_main_v1 V0 = x
      pointwise [below]
    simp only [hb]
    unfold Spline.count
    show IntOp.addi (IntOp.addi (IntOp.addi (IntOp.addi (IntOp.addi (IntOp.addi (IntOp.addi (IntOp.addi (0#32 + _) _) _) _) _) _) _) _) _ = _
    rw [BitVec.zero_add]
    rfl
  rw [← e]
  unfold res_main_v63
  generalize Host.reduce IntOp.addi _ _ _ _ = n
  pointwise [clip]
  rfl

end Cert.RefAt

end
-- ==== Proof.RefEnd.lean ====
/- The reference's two results, entry by entry: the spline's image and the sum of the logarithms of its derivative. -/
module

public import proofs.«01_k».proof.Proof.RefAt

@[expose] public section

set_option maxRecDepth 16384

noncomputable section

namespace Cert.RefEnd

open Idealize.ShloMosaic Idealize.ShloMosaic.StableHlo Cert.ReferenceIdeal Cert.ReferenceIdeal.Gen Cert.ReferenceIdeal.Value
open Cert.Spline Cert.Logits Cert.RefOps Cert.RefAt

variable (V0 : Valuation τ sig (Elt Ideal))
variable (R : Fin 4096) (C : Fin 2048)

/-- The width of the coordinate's segment. -/
theorem v64_at (z : Fin 1) : res_main_v64 V0 (ix3 R C z) = shareR (rwl V0 R C) (rs V0 R C) :=
  (take8 (res_main_v47 V0) (res_main_v63 V0) R C z (rs V0 R C) (v63_at V0 R C z)).trans (v47_at V0 R C _)

/-- The height of the coordinate's segment. -/
theorem v65_at (z : Fin 1) : res_main_v65 V0 (ix3 R C z) = shareR (rhl V0 R C) (rs V0 R C) :=
  (take8 (res_main_v32 V0) (res_main_v63 V0) R C z (rs V0 R C) (v63_at V0 R C z)).trans (v32_at V0 R C _)

/-- A quotient, at an index. -/
theorem div_at (a b : FVec Ideal S4096x2048x1 .f32) (z : Fin 1) (x y : EReal) (ha : a (ix3 R C z) = x) (hb : b (ix3 R C z) = y) :
    Host.divf a b (ix3 R C z) = Ideal.div x y := by
  subst ha hb
  rfl

/-- The mean slope over the segment. -/
theorem v66_at (z : Fin 1) : res_main_v66 V0 (ix3 R C z)
    = Ideal.div (shareR (rhl V0 R C) (rs V0 R C)) (shareR (rwl V0 R C) (rs V0 R C)) :=
  div_at R C (res_main_v65 V0) (res_main_v64 V0) z _ _ (v65_at V0 R C z) (v64_at V0 R C z)

/-- The derivative at the segment's left knot. -/
theorem v67_at (z : Fin 1) : res_main_v67 V0 (ix3 R C z) = softplusR (rdl V0 R C (rs V0 R C)) :=
  (take8 (res_main_v48 V0) (res_main_v63 V0) R C z (rs V0 R C) (v63_at V0 R C z)).trans (v48_at V0 R C _)

/-- The divisor 8 as the reference's remainder prepares it: 1 in the place of a zero. -/
def eight : BitVec 32 := Scalar.select (IntOp.cmpi .eq 8#32 0#32) 1#32 8#32

/-- The remainder by 8 with the sign of the divisor, as the reference spells it. -/
def wrap8 (v : BitVec 32) : BitVec 32 :=
  Scalar.select (IntOp.andi (IntOp.cmpi .ne (IntOp.cmpi .slt (IntOp.remsi .host v eight) 0#32) (IntOp.cmpi .slt eight 0#32))
    (IntOp.cmpi .ne (IntOp.remsi .host v eight) 0#32)) (IntOp.addi (IntOp.remsi .host v eight) eight) (IntOp.remsi .host v eight)

/-- The segment after segment `s`, around the circle. -/
theorem wrap8_next : ∀ s : Fin 8, wrap8 (IntOp.addi (BitVec.ofNat 32 s.val) 1#32) = BitVec.ofNat 32 (s + 1).val := by
  decide

/-- The next segment's word. -/
theorem v70_at (z : Fin 1) : res_main_v70 V0 (ix3 R C z) = BitVec.ofNat 32 (rs V0 R C + 1).val := by
  rw [← wrap8_next, ← v63_at V0 R C z]
  unfold res_main_v70 res_main_call7_v4
  generalize res_main_v63 V0 = k
  pointwise [res_main_call7_v2, res_main_call7_v0, wrap8, eight]
  all_goals rfl

/-- The derivative at the segment's right knot. -/
theorem v71_at (z : Fin 1) : res_main_v71 V0 (ix3 R C z) = softplusR (rdl V0 R C (rs V0 R C + 1)) :=
  (take8 (res_main_v48 V0) (res_main_v70 V0) R C z (rs V0 R C + 1) (v70_at V0 R C z)).trans (v48_at V0 R C _)

/-- The left knot of the coordinate's segment. -/
theorem left_at (z : Fin 1) : On_derivative_finite.fn_take_along_axis_1 (res_main_v51 V0) (res_main_v63 V0) (ix3 R C z)
    = knot negEps (shareR (rwl V0 R C)) (rs V0 R C).castSucc :=
  (take9 (res_main_v51 V0) (res_main_v63 V0) R C z (rs V0 R C).castSucc (v63_at V0 R C z)).trans (v51_at V0 R C _)

/-- The relative position within the segment. -/
theorem v76_at (z : Fin 1) : res_main_v76 V0 (ix3 R C z)
    = alpha (shareR (rwl V0 R C) (rs V0 R C)) (knot negEps (shareR (rwl V0 R C)) (rs V0 R C).castSucc) (xb (rX V0) R C) := by
  have e : res_main_v76 V0 = Host.divf (subf (broadcastInDim S4096x2048x1 ![0, 1] bcast_S4096x2048_S4096x2048x1_0_1 (res_main_v1 V0))
    (On_derivative_finite.fn_take_along_axis_1 (res_main_v51 V0) (res_main_v63 V0))) (res_main_v64 V0) := rfl
  rw [e]
  refine div_at R C _ _ z _ _ ?_ (v64_at V0 R C z)
  rw [← v1_at, ← left_at V0 R C z]
  generalize On_derivative_finite.fn_take_along_axis_1 (res_main_v51 V0) (res_main_v63 V0) = y
  generalize res_main_v1 V0 = x
  pointwise

/-- A denominator, at an index. -/
theorem den_at (s k k1 a : FVec Ideal S4096x2048x1 .f32) (z : Fin 1) :
    (addf s (mulf (mulf (subf (addf k1 k) (mulf (broadcastInDim S4096x2048x1 ![] bcast_S_S4096x2048x1 (constant S_ .f32 0x40000000#32)) s)) a)
      (subf (broadcastInDim S4096x2048x1 ![] bcast_S_S4096x2048x1 (constant S_ .f32 0x3F800000#32)) a))) (ix3 R C z)
    = denomR (s (ix3 R C z)) (a (ix3 R C z)) (k (ix3 R C z)) (k1 (ix3 R C z)) := by
  pointwise [denomR, two, one]

/-- The denominator of the coordinate. -/
theorem v85_at (z : Fin 1) : res_main_v85 V0 (ix3 R C z)
    = denomR (Ideal.div (shareR (rhl V0 R C) (rs V0 R C)) (shareR (rwl V0 R C) (rs V0 R C)))
        (alpha (shareR (rwl V0 R C) (rs V0 R C)) (knot negEps (shareR (rwl V0 R C)) (rs V0 R C).castSucc) (xb (rX V0) R C))
        (softplusR (rdl V0 R C (rs V0 R C))) (softplusR (rdl V0 R C (rs V0 R C + 1))) := by
  rw [← v66_at V0 R C z, ← v76_at V0 R C z, ← v67_at V0 R C z, ← v71_at V0 R C z]
  exact den_at R C (res_main_v66 V0) (res_main_v67 V0) (res_main_v71 V0) (res_main_v76 V0) z

/-- The derivatives, as one array. -/
def slopes (s k k1 a b d : FVec Ideal S4096x2048x1 .f32) : FVec Ideal S4096x2048x1 .f32 :=
  Host.divf (mulf (mulf s s) (addf (addf (mulf k1 (mulf a a))
    (mulf (mulf (mulf (broadcastInDim S4096x2048x1 ![] bcast_S_S4096x2048x1 (constant S_ .f32 0x40000000#32)) s) a)
      (subf (broadcastInDim S4096x2048x1 ![] bcast_S_S4096x2048x1 (constant S_ .f32 0x3F800000#32)) a))) (mulf k (mulf b b)))) (mulf d d)

/-- A derivative, at an index. -/
theorem slopes_at (s k k1 a b d : FVec Ideal S4096x2048x1 .f32) (z : Fin 1)
    (hb : b (ix3 R C z) = one - a (ix3 R C z))
    (hd : d (ix3 R C z) = denomR (s (ix3 R C z)) (a (ix3 R C z)) (k (ix3 R C z)) (k1 (ix3 R C z))) :
    slopes s k k1 a b d (ix3 R C z) = slopeR (s (ix3 R C z)) (a (ix3 R C z)) (k (ix3 R C z)) (k1 (ix3 R C z)) := by
  have e : slopes s k k1 a b d (ix3 R C z) = Ideal.div (s (ix3 R C z) * s (ix3 R C z) * (k1 (ix3 R C z) * (a (ix3 R C z) * a (ix3 R C z))
      + two * s (ix3 R C z) * a (ix3 R C z) * (one - a (ix3 R C z)) + k (ix3 R C z) * (b (ix3 R C z) * b (ix3 R C z))))
      (d (ix3 R C z) * d (ix3 R C z)) := by
    clear hb hd
    pointwise [slopes, two, one]
  rw [e, hb, hd]
  rfl

/-- The reference's derivatives. -/
abbrev grads : FVec Ideal S4096x2048x1 .f32 :=
  slopes (res_main_v66 V0) (res_main_v67 V0) (res_main_v71 V0) (res_main_v76 V0) (res_main_v112 V0) (res_main_v85 V0)

/-- A complement to one, at an index. -/
theorem compl_at (a : FVec Ideal S4096x2048x1 .f32) (z : Fin 1) :
    subf (broadcastInDim S4096x2048x1 ![] bcast_S_S4096x2048x1 (constant S_ .f32 0x3F800000#32)) a (ix3 R C z) = one - a (ix3 R C z) := by
  pointwise [one]

/-- The derivative of the coordinate. -/
theorem grads_at (z : Fin 1) : grads V0 (ix3 R C z) = gradR (rwl V0 R C) (rhl V0 R C) (rdl V0 R C) (xb (rX V0) R C) := by
  refine (slopes_at R C _ _ _ _ _ _ z (compl_at R C (res_main_v76 V0) z)
    (den_at R C (res_main_v66 V0) (res_main_v67 V0) (res_main_v71 V0) (res_main_v76 V0) z)).trans ?_
  rw [v66_at, v76_at, v67_at, v71_at]
  rfl

/-- The left knot of the coordinate's segment on the image side. -/
theorem base_at (z : Fin 1) : On_derivative_finite.fn_take_along_axis_1 (concatenate S4096x2048x9 2 [⟨S4096x2048x1, (broadcastInDim S4096x2048x1 ![] bcast_S_S4096x2048x1 (constant S_ .f32 0x00000000#32))⟩,
      ⟨S4096x2048x8, (Host.reduceWindowAdd ![1, 1, 8] ![1, 1, 1] ![0, 0, 7] ![0, 0, 0] (res_main_v32 V0) (broadcastInDim S_ ![] bcast_S_S_ (constant S_ .f32 0x00000000#32))
        reduceWindows_S4096x2048x8_S4096x2048x8_w1s1p0_0_w1s1p0_0_w8s1p7_0 h_S_)⟩] concatenates_S4096x2048x1_S4096x2048x8_S4096x2048x9_d2) (res_main_v63 V0) (ix3 R C z)
    = knot zero (shareR (rhl V0 R C)) (rs V0 R C).castSucc :=
  (take9 _ (res_main_v63 V0) R C z (rs V0 R C).castSucc (v63_at V0 R C z)).trans
    (knot_at R C 0x00000000#32 (res_main_v32 V0) _ (v32_at V0 R C) _)

/-- The images before the phase, as one array. -/
def images (p h s k a d : FVec Ideal S4096x2048x1 .f32) : FVec Ideal S4096x2048x1 .f32 :=
  addf p (Host.divf (mulf h (addf (mulf s (mulf a a)) (mulf (mulf k a)
    (subf (broadcastInDim S4096x2048x1 ![] bcast_S_S4096x2048x1 (constant S_ .f32 0x3F800000#32)) a)))) d)

/-- An image before the phase, at an index. -/
theorem images_at (p h s k k1 a d : FVec Ideal S4096x2048x1 .f32) (z : Fin 1)
    (hd : d (ix3 R C z) = denomR (s (ix3 R C z)) (a (ix3 R C z)) (k (ix3 R C z)) (k1 (ix3 R C z))) :
    images p h s k a d (ix3 R C z)
      = imageR (h (ix3 R C z)) (s (ix3 R C z)) (a (ix3 R C z)) (k (ix3 R C z)) (k1 (ix3 R C z)) (p (ix3 R C z)) := by
  have e : images p h s k a d (ix3 R C z) = p (ix3 R C z) + Ideal.div (h (ix3 R C z) * (s (ix3 R C z) * (a (ix3 R C z) * a (ix3 R C z))
      + k (ix3 R C z) * a (ix3 R C z) * (one - a (ix3 R C z)))) (d (ix3 R C z)) := by
    clear hd
    pointwise [images, one]
  rw [e, hd]
  rfl

/-- The remainder by 2π of the images with the phase added, as one array. -/
def rem (y : FVec Ideal S4096x2048x1 .f32) (p : FVec Ideal S1 .f32) (t : FVec Ideal S_ .f32) : FVec Ideal S4096x2048 .f32 :=
  Host.remf (addf (shapeCast _ y shapeCasts_S4096x2048x1_S4096x2048)
    (broadcastInDim S4096x2048 ![0, 1] bcast_S1x1_S4096x2048_0_1 (broadcastInDim S1x1 ![1] bcast_S1_S1x1_1 p)))
    (broadcastInDim S4096x2048 ![] bcast_S_S4096x2048 t)

/-- Such a remainder, at an index. -/
theorem rem_at (y : FVec Ideal S4096x2048x1 .f32) (p : FVec Ideal S1 .f32) (t : FVec Ideal S_ .f32) :
    rem y p t (ix2 R C) = Ideal.remf (y (ix3 R C 0) + p (ix1 0)) (t ix0) := by
  have hs : shapeCast S4096x2048 y shapeCasts_S4096x2048x1_S4096x2048 (ix2 R C) = y (ix3 R C 0) := by
    refine shapeCast_apply _ _ _ _ ?_
    rw [Shape.rowMajor_val_three, Shape.rowMajor_val_two]
    show (R.val * 2048 + C.val) * 1 + 0 = R.val * 2048 + C.val
    omega
  rw [← hs]
  unfold rem
  generalize shapeCast S4096x2048 y _ = Y
  pointwise

/-- The remainder given the sign of the divisor, as one array. -/
def wrap (v : FVec Ideal S4096x2048 .f32) (t : FVec Ideal S_ .f32) : FVec Ideal S4096x2048 .f32 :=
  select (andi (cmpi .ne (cmpf .olt v (broadcastInDim S4096x2048 ![] bcast_S_S4096x2048 (constant S_ .f32 0x00000000#32)))
    (broadcastInDim S4096x2048 ![] bcast_S_S4096x2048 (cmpf .olt t (constant S_ .f32 0x00000000#32))))
    (cmpf .une v (broadcastInDim S4096x2048 ![] bcast_S_S4096x2048 (constant S_ .f32 0x00000000#32))))
    (addf v (broadcastInDim S4096x2048 ![] bcast_S_S4096x2048 t)) v

/-- Such a remainder, at an index. -/
theorem wrap_at (v : FVec Ideal S4096x2048 .f32) (t : FVec Ideal S_ .f32) (y : EReal) (hv : v (ix2 R C) = Ideal.remf y twoPi)
    (ht : t = id (constant S_ .f32 0x40C90FDB#32)) : wrap v t (ix2 R C) = wrapR y := by
  subst ht
  unfold wrapR
  rw [← hv]
  clear hv
  pointwise [wrap, twoPi, zero]
  rfl

/-- The phase-shifted image before the sign is settled. -/
theorem call11_at : res_main_call11_v2 V0 (ix2 R C) = Ideal.remf
    (imageR (shareR (rhl V0 R C) (rs V0 R C)) (Ideal.div (shareR (rhl V0 R C) (rs V0 R C)) (shareR (rwl V0 R C) (rs V0 R C)))
        (alpha (shareR (rwl V0 R C) (rs V0 R C)) (knot negEps (shareR (rwl V0 R C)) (rs V0 R C).castSucc) (xb (rX V0) R C))
        (softplusR (rdl V0 R C (rs V0 R C))) (softplusR (rdl V0 R C (rs V0 R C + 1))) (knot zero (shareR (rhl V0 R C)) (rs V0 R C).castSucc)
      + rP V0 (ix1 0)) twoPi := by
  rw [← base_at V0 R C 0, ← v76_at V0 R C 0, ← v66_at V0 R C 0, ← v65_at V0 R C 0, ← v67_at V0 R C 0, ← v71_at V0 R C 0]
  rw [← images_at R C _ (res_main_v65 V0) (res_main_v66 V0) (res_main_v67 V0) (res_main_v71 V0) (res_main_v76 V0) (res_main_v85 V0) 0
    (den_at R C (res_main_v66 V0) (res_main_v67 V0) (res_main_v71 V0) (res_main_v76 V0) 0)]
  exact rem_at R C _ (rP V0) (res_main_call11_v0 V0)

/-- The reference's images. -/
abbrev phis : FVec Ideal S4096x2048 .f32 := wrap (res_main_call11_v2 V0) (res_main_call11_v0 V0)

/-- The image of the coordinate. -/
theorem phis_at : phis V0 (ix2 R C) = phiR (rwl V0 R C) (rhl V0 R C) (rdl V0 R C) (xb (rX V0) R C) (rP V0 (ix1 0)) :=
  wrap_at R C _ _ _ (call11_at V0 R C) rfl

/-- The first result: the coordinates left alone, then the images. -/
theorem first_at (x : FVec Ideal S4096x4096 .f32) (y : FVec Ideal S4096x2048 .f32) (z : Fin 2) :
    shapeCast S4096x2x2048 (concatenate S4096x4096 1 [⟨S4096x2048, (extractStridedSlice S4096x2048 ![0, 0] x slices_S4096x4096_S4096x2048_0_0)⟩,
      ⟨S4096x2048, y⟩] concatenates_S4096x2048_S4096x2048_S4096x4096_d1) shapeCasts_S4096x4096_S4096x2x2048 (ix3 R z C)
    = if z.val = 0 then x (ix2 R ⟨C.val, by omega⟩) else y (ix2 R C) := by
  refine (shapeCast_apply _ _ _ (ix2 R ⟨z.val * 2048 + C.val, by omega⟩) ?_).trans ?_
  · rw [Shape.rowMajor_val_three, Shape.rowMajor_val_two]
    show R.val * 4096 + (z.val * 2048 + C.val) = (R.val * 2 + z.val) * 2048 + C.val
    omega
  obtain ⟨z, hz⟩ := z
  rcases (show z = 0 ∨ z = 1 by omega) with rfl | rfl
  · pointwise
  · pointwise

/-- The second result: the log density less the sum of the logarithms of the derivatives. -/
theorem second_at (l : FVec Ideal S4096x1 .f32) (g : FVec Ideal S4096x2048x1 .f32) (z : Fin 1) :
    subf l (Host.reduceAdd (Host.log g) (constant S_ .f32 0x00000000#32) reducesTo_S4096x2048x1_S4096x1_d1 h_S_) (ix2 R z)
    = l (ix2 R 0) - ∑ k : Fin 2048, Ideal.log (g (ix3 R k 0)) := by
  obtain rfl : z = 0 := Subsingleton.elim _ _
  pointwise

end Cert.RefEnd

end
-- ==== Proof.Mask.lean ====
/- What the two conditions say: where the mask is one the reference's derivatives are below infinity, and where the
   precondition is one the second layer's weights and biases of the height and width logits are real numbers. -/
module

public import proofs.«01_k».proof.Proof.RefEnd
public import proofs.«01_k».proof.Proof.Gen.Pre_softmax_weights_finite
public import Idealize.ShloMosaic.Lib.ReduceAll

@[expose] public section

set_option maxRecDepth 16384

noncomputable section

namespace Cert.Mask

open Idealize.ShloMosaic Idealize.ShloMosaic.StableHlo Cert.ReferenceIdeal Cert.ReferenceIdeal.Gen Cert.ReferenceIdeal.Value
open Cert.Spline Cert.Logits Cert.RefOps Cert.RefAt Cert.RefEnd

/-- The word of infinity. -/
theorem ofBits_top : Ideal.ofBits .f32 0x7F800000#32 = (⊤ : EReal) := by simp [Ideal.ofBits, Ideal.ieee]

/-- From the gathered arrays on, the mask is the last stage of the derivatives. -/
theorem part4_eq (p : FVec Ideal S1 .f32) (h s k k1 b a : FVec Ideal S4096x2048x1 .f32) :
    On_derivative_finite.fn_part4 p h s k k1 b a (addf k1 k) = On_derivative_finite.fn_part6 (slopes s k k1 a
      (subf (broadcastInDim S4096x2048x1 ![] bcast_S_S4096x2048x1 (constant S_ .f32 0x3F800000#32)) a)
      (addf s (mulf (mulf (subf (addf k1 k) (mulf (broadcastInDim S4096x2048x1 ![] bcast_S_S4096x2048x1 (constant S_ .f32 0x40000000#32)) s)) a)
        (subf (broadcastInDim S4096x2048x1 ![] bcast_S_S4096x2048x1 (constant S_ .f32 0x3F800000#32)) a)))) := rfl

variable (V0 : Valuation τ sig (Elt Ideal))

/-- The reference's gathered left knots on the image side. -/
abbrev bases : FVec Ideal S4096x2048x1 .f32 :=
  On_derivative_finite.fn_take_along_axis_1 (concatenate S4096x2048x9 2 [⟨S4096x2048x1, (broadcastInDim S4096x2048x1 ![] bcast_S_S4096x2048x1 (constant S_ .f32 0x00000000#32))⟩,
    ⟨S4096x2048x8, (Host.reduceWindowAdd ![1, 1, 8] ![1, 1, 1] ![0, 0, 7] ![0, 0, 0] (res_main_v32 V0) (broadcastInDim S_ ![] bcast_S_S_ (constant S_ .f32 0x00000000#32))
      reduceWindows_S4096x2048x8_S4096x2048x8_w1s1p0_0_w1s1p0_0_w8s1p7_0 h_S_)⟩] concatenates_S4096x2048x1_S4096x2048x8_S4096x2048x9_d2) (res_main_v63 V0)

/-- The mask is the last stage of the reference's derivatives. -/
theorem mask_eq (l : FVec Ideal S4096x1 .f32) (k : IVec S_ 32) :
    On_derivative_finite.fn (rX V0) l (rW1 V0) (rB1 V0) (rW2 V0) (rB2 V0) (rP V0) k = On_derivative_finite.fn_part6 (grads V0) :=
  part4_eq (rP V0) (res_main_v65 V0) (res_main_v66 V0) (res_main_v67 V0) (res_main_v71 V0) (bases V0) (res_main_v76 V0)

/-- The mask's last stage: on each row, all derivatives are below infinity. -/
theorem part6_eq (g : FVec Ideal S4096x2048x1 .f32) : (On_derivative_finite.fn_part6 g).2
    = Host.reduce IntOp.andi (cmpf .olt g (broadcastInDim S4096x2048x1 ![] bcast_S_S4096x2048x1 (constant S_ .f32 0x7F800000#32)))
        (constantI S_ 1 1#1) reducesTo_S4096x2048x1_S4096x1_d1 h_S_ := by
  dsimp only [On_derivative_finite.fn_part6]

/-- Where a row's conjunction is one, each of its bits is. -/
theorem row_one (x : IVec S4096x2048x1 1) (v : IVec S_ 1) (R : Fin 4096) (C : Fin 2048)
    (e : Host.reduce IntOp.andi x v reducesTo_S4096x2048x1_S4096x1_d1 h_S_ (ix2 R 0) = 1#1) : x (ix3 R C 0) = 1#1 := by
  refine Host.reduce_andi_eq_one x v _ _ (ix2 R 0) e (ix3 R C 0) (funext fun a => Fin.ext ?_)
  rw [Shape.ReducesTo.drop_apply_val]
  fin_cases a <;> rfl

/-- A comparison with infinity, at an index. -/
theorem olt_top (g : FVec Ideal S4096x2048x1 .f32) (i : S4096x2048x1.Idx)
    (h : cmpf .olt g (broadcastInDim S4096x2048x1 ![] bcast_S_S4096x2048x1 (constant S_ .f32 0x7F800000#32)) i = 1#1) :
    (g i : EReal) < ⊤ := by
  have h2 : Ideal.cmp .olt (g i) (Ideal.ofBits .f32 0x7F800000#32) = 1#1 := h
  rw [ofBits_top] at h2
  exact (Ideal.cmp_olt_eq_one _ _).1 h2

/-- Where the mask of the second result is one, every derivative of the row is below infinity. -/
theorem below_top (l : FVec Ideal S4096x1 .f32) (k : IVec S_ 32) (R : Fin 4096)
    (e : (On_derivative_finite.fn (rX V0) l (rW1 V0) (rB1 V0) (rW2 V0) (rB2 V0) (rP V0) k).2 (ix2 R 0) = 1#1) (C : Fin 2048) :
    gradR (rwl V0 R C) (rhl V0 R C) (rdl V0 R C) (xb (rX V0) R C) < ⊤ := by
  rw [mask_eq, part6_eq] at e
  rw [← grads_at V0 R C 0]
  exact olt_top _ _ (row_one _ _ R C e)

/-- A number whose size is below infinity is real. -/
theorem real_of_abs (x : EReal) (h : Ideal.cmp .olt (max x (-x)) (Ideal.ofBits .f32 0x7F800000#32) = 1#1) : ∃ r : ℝ, x = (r : EReal) := by
  rw [ofBits_top] at h
  have h1 := max_lt_iff.1 ((Ideal.cmp_olt_eq_one _ _).1 h)
  induction x with
  | bot => simp at h1
  | top => simp at h1
  | coe r => exact ⟨r, rfl⟩

/-- The weights the precondition reads, at an index. -/
theorem weight_at (W2 : FVec Ideal S64x49152 .f32) (h1 : S64x49152.ShapeCasts Pre_softmax_weights_finite.S64x2048x24)
    (h2 : Pre_softmax_weights_finite.S64x2048x24.Slices ![0, 0, 0] Pre_softmax_weights_finite.S64x2048x16) (k : Fin 64) (C : Fin 2048) (p : Fin 16) :
    extractStridedSlice Pre_softmax_weights_finite.S64x2048x16 ![0, 0, 0] (shapeCast Pre_softmax_weights_finite.S64x2048x24 W2 h1) h2 (ix3 k C p)
      = W2 (ix2 k ⟨C.val * 24 + p.val, by omega⟩) := by
  pointwise

/-- The biases the precondition reads, at an index. -/
theorem bias_at (B2 : FVec Ideal S49152 .f32) (h1 : S49152.ShapeCasts Pre_softmax_weights_finite.S2048x24)
    (h2 : Pre_softmax_weights_finite.S2048x24.Slices ![0, 0] Pre_softmax_weights_finite.S2048x16) (C : Fin 2048) (p : Fin 16) :
    extractStridedSlice Pre_softmax_weights_finite.S2048x16 ![0, 0] (shapeCast Pre_softmax_weights_finite.S2048x24 B2 h1) h2 (ix2 C p)
      = B2 (ix1 ⟨C.val * 24 + p.val, by omega⟩) := by
  pointwise

/-- Where the precondition is one, the second layer's weights of the height and width logits are real. -/
theorem weight_real (X : FVec Ideal S4096x4096 .f32) (l : FVec Ideal S4096x1 .f32) (W1 : FVec Ideal S4096x64 .f32) (B1 : FVec Ideal S64 .f32)
    (W2 : FVec Ideal S64x49152 .f32) (B2 : FVec Ideal S49152 .f32) (P : FVec Ideal S1 .f32) (k : IVec S_ 32)
    (h : (Pre_softmax_weights_finite.fn X l W1 B1 W2 B2 P k).1 = fun _ => 1#1) (j : Fin 64) (C : Fin 2048) (p : Fin 16) :
    ∃ r : ℝ, W2 (ix2 j ⟨C.val * 24 + p.val, by omega⟩) = (r : EReal) := by
  obtain ⟨r, e⟩ := real_of_abs _ (congrFun h (ix3 j C p))
  exact ⟨r, (weight_at W2 _ _ j C p).symm.trans e⟩

/-- Where the precondition is one, the second layer's biases of the height and width logits are real. -/
theorem bias_real (X : FVec Ideal S4096x4096 .f32) (l : FVec Ideal S4096x1 .f32) (W1 : FVec Ideal S4096x64 .f32) (B1 : FVec Ideal S64 .f32)
    (W2 : FVec Ideal S64x49152 .f32) (B2 : FVec Ideal S49152 .f32) (P : FVec Ideal S1 .f32) (k : IVec S_ 32)
    (h : (Pre_softmax_weights_finite.fn X l W1 B1 W2 B2 P k).2 = fun _ => 1#1) (C : Fin 2048) (p : Fin 16) :
    ∃ r : ℝ, B2 (ix1 ⟨C.val * 24 + p.val, by omega⟩) = (r : EReal) := by
  obtain ⟨r, e⟩ := real_of_abs _ (congrFun h (ix2 C p))
  exact ⟨r, (bias_at B2 _ _ C p).symm.trans e⟩

/-- A hyperbolic tangent is real. -/
theorem tanh_real (x : EReal) : ∃ r : ℝ, Ideal.tanh x = (r : EReal) := by
  induction x with
  | bot => exact ⟨-1, rfl⟩
  | top => exact ⟨1, rfl⟩
  | coe r => exact ⟨Real.tanh r, rfl⟩

/-- A finite sum of products of real numbers is real. -/
theorem sum_real (n : ℕ) (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  refine Eq.trans (Finset.sum_congr rfl fun k _ => by rw [ha, hb, ← EReal.coe_mul]) (?_ : ∑ k, ((a k * b k : ℝ) : EReal) = _)
  exact (map_sum (⟨⟨Real.toEReal, EReal.coe_zero⟩, EReal.coe_add⟩ : ℝ →+ EReal) (fun k => a k * b k) Finset.univ).symm

/-- A logit whose second-layer weights and bias are real is real. -/
theorem logit_real (X : Vec Ideal S4096x4096 .f32) (W1 : Vec Ideal S4096x64 .f32) (B1 : Vec Ideal S64 .f32)
    (W2 : Vec Ideal S64x49152 .f32) (B2 : Vec Ideal S49152 .f32) (R : Fin 4096) (C : Fin 2048) (p : Fin 24)
    (hW : ∀ j : Fin 64, ∃ r : ℝ, W2 (ix2 j ⟨C.val * 24 + p.val, by omega⟩) = (r : EReal))
    (hB : ∃ r : ℝ, B2 (ix1 ⟨C.val * 24 + p.val, by omega⟩) = (r : EReal)) :
    ∃ r : ℝ, logit X W1 B1 W2 B2 R C p = (r : EReal) := by
  obtain ⟨a, ha⟩ := sum_real 64 (act X W1 B1 R) (fun h => W2 (ix2 h ⟨C.val * 24 + p.val, by omega⟩)) (fun h => tanh_real _) hW
  obtain ⟨b, hb⟩ := hB
  refine ⟨a + b, ?_⟩
  unfold logit
  rw [ha, hb, EReal.coe_add]

end Cert.Mask

end
-- ==== Proof.Compare.lean ====
/- The kernel's two results against the reference's, entry by entry, from equal arguments whose height and width logits are real. -/
module

public import proofs.«01_k».proof.Proof.Fold
public import proofs.«01_k».proof.Proof.Mask

@[expose] public section

set_option maxRecDepth 16384

noncomputable section

namespace Cert.Compare

open Idealize.ShloMosaic Cert.Spline Cert.Logits Cert.Blocks Cert.Fold Cert.RefAt Cert.RefEnd Cert.Mask

variable (m : (ℓ : Loc KernelIdeal.nD KernelIdeal.τ KernelIdeal.sig) → Buf (Elt Ideal) ℓ) (c : Dev KernelIdeal.nD)
variable (V0 : Valuation ReferenceIdeal.τ ReferenceIdeal.sig (Elt Ideal))

/-- The reference's log densities. -/
abbrev rL : FVec Ideal ReferenceIdeal.S4096x1 .f32 := V0 (Proc.devRef .tc ReferenceIdeal.main_arg1)

/-- The reference's first result as one array. -/
def refFirst : FVec Ideal ReferenceIdeal.S4096x2x2048 .f32 :=
  shapeCast ReferenceIdeal.S4096x2x2048 (concatenate ReferenceIdeal.S4096x4096 1 [⟨ReferenceIdeal.S4096x2048,
      (extractStridedSlice ReferenceIdeal.S4096x2048 ![0, 0] (rX V0) ReferenceIdeal.Gen.slices_S4096x4096_S4096x2048_0_0)⟩,
    ⟨ReferenceIdeal.S4096x2048, phis V0⟩] ReferenceIdeal.Gen.concatenates_S4096x2048_S4096x2048_S4096x4096_d1)
    ReferenceIdeal.Gen.shapeCasts_S4096x4096_S4096x2x2048

/-- The reference's second result as one array. -/
def refSecond : FVec Ideal ReferenceIdeal.S4096x1 .f32 :=
  subf (rL V0) (Host.reduceAdd (Host.log (grads V0)) (constant ReferenceIdeal.S_ .f32 0x00000000#32)
    ReferenceIdeal.Gen.reducesTo_S4096x2048x1_S4096x1_d1 ReferenceIdeal.Gen.h_S_)

/-- The two programs' arguments that the results read are equal, and the second layer is real where it gives heights and widths. -/
structure Same : Prop where
  X : rX V0 = aX m c
  L : rL V0 = aL m c
  W1 : rW1 V0 = aW1 m c
  B1 : rB1 V0 = aB1 m c
  W2 : rW2 V0 = aW2 m c
  B2 : rB2 V0 = aB2 m c
  P : rP V0 = aP m c
  realW : ∀ (j : Fin 64) (C : Fin 2048) (p : Fin 16), ∃ r : ℝ, aW2 m c (ix2 j ⟨C.val * 24 + p.val, by omega⟩) = (r : EReal)
  realB : ∀ (C : Fin 2048) (p : Fin 16), ∃ r : ℝ, aB2 m c (ix1 ⟨C.val * 24 + p.val, by omega⟩) = (r : EReal)

variable {m c V0}

/-- The width logits are real. -/
theorem wl_real (S : Same m c V0) (R : Fin 4096) (C : Fin 2048) (s : Fin 8) :
    ∃ r : ℝ, wl (aX m c) (aW1 m c) (aB1 m c) (aW2 m c) (aB2 m c) R C s = (r : EReal) :=
  logit_real _ _ _ _ _ R C _ (fun j => S.realW j C ⟨8 + s.val, by omega⟩) (S.realB C ⟨8 + s.val, by omega⟩)

/-- The height logits are real. -/
theorem hl_real (S : Same m c V0) (R : Fin 4096) (C : Fin 2048) (s : Fin 8) :
    ∃ r : ℝ, hl (aX m c) (aW1 m c) (aB1 m c) (aW2 m c) (aB2 m c) R C s = (r : EReal) :=
  logit_real _ _ _ _ _ R C _ (fun j => S.realW j C ⟨s.val, by omega⟩) (S.realB C ⟨s.val, by omega⟩)

/-- The kernel's image of a coordinate is the reference's. -/
theorem phi_same (S : Same m c V0) (R : Fin 4096) (C : Fin 2048) :
    phiAt m c R C = phiR (rwl V0 R C) (rhl V0 R C) (rdl V0 R C) (xb (rX V0) R C) (rP V0 (ix1 0)) := by
  unfold phiAt rwl rhl rdl
  rw [S.X, S.W1, S.B1, S.W2, S.B2, S.P]
  exact phi_eq _ _ _ _ _ (wl_real S R C) (hl_real S R C)

/-- The kernel's derivative at a coordinate is the reference's. -/
theorem grad_same (S : Same m c V0) (R : Fin 4096) (C : Fin 2048) :
    gradAt m c R C = gradR (rwl V0 R C) (rhl V0 R C) (rdl V0 R C) (xb (rX V0) R C) := by
  unfold gradAt rwl rhl rdl
  rw [S.X, S.W1, S.B1, S.W2, S.B2]
  exact grad_eq _ _ _ _ (wl_real S R C) (hl_real S R C)

/-- The first results agree at every entry. -/
theorem first_same (S : Same m c V0) (R : Fin 4096) (z : Fin 2) (C : Fin 2048) :
    refFirst V0 (ix3 R z C) = KernelIdeal.Value.G9 m c (ix3 R z C : KernelIdeal.S4096x2x2048.Idx) := by
  refine (first_at R C (rX V0) (phis V0) z).trans ?_
  rw [G9_at, phi_same S, phis_at, S.X]

/-- Eight tiles of 256 coordinates are the 2048 coordinates. -/
theorem tiles_sum (f : Fin 2048 → EReal) : ∑ j ∈ Finset.range 8, ∑ q : Fin 256, f (cl j q) = ∑ C : Fin 2048, f C := by
  rw [Finset.sum_range, ← Fintype.sum_prod_type' (fun (j : Fin 8) (q : Fin 256) => f (cl j q))]
  refine Fintype.sum_equiv (finProdFinEquiv : Fin 8 × Fin 256 ≃ Fin 2048) _ _ fun p => congrArg f (Fin.ext ?_)
  have h1 := p.1.isLt
  have h2 := p.2.isLt
  show (256 * p.1.val + p.2.val) % 2048 = p.2.val + 256 * p.1.val
  omega

/-- On a row whose derivatives are all below infinity the second results agree. -/
theorem second_same (S : Same m c V0) (R : Fin 4096)
    (h : ∀ C, gradR (rwl V0 R C) (rhl V0 R C) (rdl V0 R C) (xb (rX V0) R C) < ⊤) :
    refSecond V0 (ix2 R 0) = KernelIdeal.Value.G10 m c (ix2 R 0 : KernelIdeal.S4096x1.Idx) := by
  refine (second_at R (rL V0) (grads V0) 0).trans ?_
  have ht : ∀ t < 8, share m c R t ≠ ⊤ := fun t _ => sum_ne_top _ _ fun q _ => log_ne_top _ (lt_of_eq_of_lt (grad_same S R (cl t q)) (h _))
  rw [G10_at, peel_eq _ _ _ ht]
  unfold share
  rw [tiles_sum (fun C => Ideal.log (gradAt m c R C)), S.L]
  refine congrArg (fun v : EReal => aL m c (ix2 R 0) - v) (Finset.sum_congr rfl fun C _ => congrArg Ideal.log ?_)
  rw [grads_at, grad_same S]

/-- The first results are one array. -/
theorem first_eq (S : Same m c V0) (i : ReferenceIdeal.S4096x2x2048.Idx) : refFirst V0 i = KernelIdeal.Value.G9 m c i := by
  have e : i = ix3 (i 0) (i 1) (i 2) := by funext a; fin_cases a <;> rfl
  rw [e]
  exact first_same S (i 0) (i 1) (i 2)

/-- The second results agree at every entry the mask, read on the kernel's arguments, keeps. -/
theorem second_eq (S : Same m c V0) (k : IVec ReferenceIdeal.S_ 32) (i : ReferenceIdeal.S4096x1.Idx)
    (h : (On_derivative_finite.fn (F := Ideal) (aX m c) (aL m c) (aW1 m c) (aB1 m c) (aW2 m c) (aB2 m c) (aP m c) k).2 i = 1#1) :
    refSecond V0 i = KernelIdeal.Value.G10 m c i := by
  have e : i = ix2 (i 0) 0 := by
    funext a
    match a with
    | ⟨0, _⟩ => rfl
    | ⟨1, _⟩ => exact Subsingleton.elim (α := Fin 1) _ _
  rw [e] at h ⊢
  rw [← S.X, ← S.W1, ← S.B1, ← S.W2, ← S.B2, ← S.P] at h
  exact second_same S (i 0) (below_top V0 (aL m c) k (i 0) h)

end Cert.Compare

end
-- ==== Proof.lean ====
/- The certificate: the three programs' frames, what the real-number reading keeps, and the equality of the kernel's and
   the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_softmax_weights_finite
public import proofs.«01_k».proof.Proof.Gen.On_derivative_finite
public import proofs.«01_k».proof.Proof.Compare
public import Idealize.ShloMosaic.Adequacy
public import Idealize.ShloMosaic.Init

@[expose] public section

noncomputable section

namespace Cert.Proof

open Idealize.ShloMosaic Idealize.ShloMosaic.StableHlo Idealize.SL.Sem Cert.Compare

/-- The reference leaves its arguments and its semaphores as they were, from every memory. -/
theorem frame_ref : Cert.quiescent_ReferenceIdeal := fun m ρ _ =>
  (θ_run (Cert.ReferenceIdeal.defs (F := Ideal)) _ _).mono (fun r h => ⟨fun c => (h c).2.2, Idealize.ShloMosaic.sem_eq_zero_of_no_sems (by decide) r.2⟩)
    (Cert.ReferenceIdeal.Value.run (F := Ideal) m ρ)

/-- The precondition and equal arguments are what the comparison takes. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_softmax_weights_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Same m c (launchContents m' c) where
  X := h0
  L := h1
  W1 := h2
  B1 := h3
  W2 := h4
  B2 := h5
  P := h6
  realW := Cert.Mask.weight_real _ _ _ _ _ _ _ _ (hp c).1
  realB := Cert.Mask.bias_real _ _ _ _ _ _ _ _ (hp c).2

/-- From every memory whose height and width weights are real the kernel and the reference, started on equal arguments, end with equal
    results wherever the mask says so. -/
theorem algebraic : Cert.algebraic_KernelIdeal_ReferenceIdeal_on_derivative_finite_pre_softmax_weights_finite := by
  intro m g m' g' hp ha
  have S : ∀ c, Same m c (launchContents m' c) := fun c =>
    same m m' hp c (ha c).1 (ha c).2.1 (ha c).2.2.1 (ha c).2.2.2.1 (ha c).2.2.2.2.1 (ha c).2.2.2.2.2.1 (ha c).2.2.2.2.2.2.1
  refine ⟨fun c => Cert.KernelIdeal.Value.G9 m c, fun c => Cert.KernelIdeal.Value.G10 m c, ?_, ?_⟩
  · exact (θ_run (Cert.KernelIdeal.defs (F := Ideal)) _ _).mono (fun r h c =>
      ⟨fun i _ => congrFun (h c).1 i, fun i _ => congrFun (h c).2.1 i, (h c).2.2⟩) (Cert.KernelIdeal.Value.run (F := Ideal) m g)
  · refine (θ_run (Cert.ReferenceIdeal.defs (F := Ideal)) _ _).mono (fun r h c => ⟨fun i _ => ?_, fun i hi => ?_, (h c).2.2⟩)
      (Cert.ReferenceIdeal.Value.run (F := Ideal) m' g')
    · exact (congrFun (h c).1 i).trans (first_eq (S c) i)
    · exact (congrFun (h c).2.1 i).trans (second_eq (S c) _ i hi)

/-- Every claim of the certificate. -/
theorem claim : Cert.Claim := ⟨Cert.Kernel.Gen.facts, Cert.KernelIdeal.Gen.facts, Cert.ReferenceIdeal.Gen.facts, Cert.Pre_softmax_weights_finite.Gen.facts, Cert.On_derivative_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ True.intro, trivial, algebraic⟩

end Cert.Proof

end
